-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 64]⟩ ⟨2, ![4096, 64]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 64]⟩ ⟨2, ![4096, 64]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x64 : Shape := ⟨2, ![128, 64]⟩
abbrev S32x128x64 : Shape := ⟨3, ![32, 128, 64]⟩
abbrev S10 : Shape := ⟨1, ![10]⟩
abbrev S_ : Shape := ⟨0, ![]⟩
abbrev S128x1 : Shape := ⟨2, ![128, 1]⟩
abbrev S64x2x1x64 : Shape := ⟨4, ![64, 2, 1, 64]⟩
abbrev S64x1x1x64 : Shape := ⟨4, ![64, 1, 1, 64]⟩
abbrev S32x2x2x64 : Shape := ⟨4, ![32, 2, 2, 64]⟩
abbrev S32x1x2x64 : Shape := ⟨4, ![32, 1, 2, 64]⟩
abbrev S16x2x4x64 : Shape := ⟨4, ![16, 2, 4, 64]⟩
abbrev S16x1x4x64 : Shape := ⟨4, ![16, 1, 4, 64]⟩
abbrev S8x2x8x64 : Shape := ⟨4, ![8, 2, 8, 64]⟩
abbrev S8x1x8x64 : Shape := ⟨4, ![8, 1, 8, 64]⟩
abbrev S4x2x16x64 : Shape := ⟨4, ![4, 2, 16, 64]⟩
abbrev S4x1x16x64 : Shape := ⟨4, ![4, 1, 16, 64]⟩
abbrev S2x2x32x64 : Shape := ⟨4, ![2, 2, 32, 64]⟩
abbrev S2x1x32x64 : Shape := ⟨4, ![2, 1, 32, 64]⟩
abbrev S1x2x64x64 : Shape := ⟨4, ![1, 2, 64, 64]⟩
abbrev S1x1x64x64 : Shape := ⟨4, ![1, 1, 64, 64]⟩
abbrev S1x128x64 : Shape := ⟨3, ![1, 128, 64]⟩
abbrev S1 : Shape := ⟨1, ![1]⟩
abbrev S8x128x64 : Shape := ⟨3, ![8, 128, 64]⟩
abbrev S1024x64 : Shape := ⟨2, ![1024, 64]⟩
abbrev S512x64 : Shape := ⟨2, ![512, 64]⟩
abbrev S512x128 : Shape := ⟨2, ![512, 128]⟩
abbrev S512x1 : Shape := ⟨2, ![512, 1]⟩
abbrev S1x128 : Shape := ⟨2, ![1, 128]⟩
abbrev S2x2x128x128 : Shape := ⟨4, ![2, 2, 128, 128]⟩
abbrev S2x1x128x128 : Shape := ⟨4, ![2, 1, 128, 128]⟩
abbrev S4x2x64x128 : Shape := ⟨4, ![4, 2, 64, 128]⟩
abbrev S4x1x64x128 : Shape := ⟨4, ![4, 1, 64, 128]⟩
abbrev S8x2x32x128 : Shape := ⟨4, ![8, 2, 32, 128]⟩
abbrev S8x1x32x128 : Shape := ⟨4, ![8, 1, 32, 128]⟩
abbrev S16x2x16x128 : Shape := ⟨4, ![16, 2, 16, 128]⟩
abbrev S16x1x16x128 : Shape := ⟨4, ![16, 1, 16, 128]⟩
abbrev S32x2x8x128 : Shape := ⟨4, ![32, 2, 8, 128]⟩
abbrev S32x1x8x128 : Shape := ⟨4, ![32, 1, 8, 128]⟩
abbrev S64x2x4x128 : Shape := ⟨4, ![64, 2, 4, 128]⟩
abbrev S64x1x4x128 : Shape := ⟨4, ![64, 1, 4, 128]⟩
abbrev S128x2x2x128 : Shape := ⟨4, ![128, 2, 2, 128]⟩
abbrev S128x1x2x128 : Shape := ⟨4, ![128, 1, 2, 128]⟩
abbrev S256x2x1x128 : Shape := ⟨4, ![256, 2, 1, 128]⟩
abbrev S256x1x1x128 : Shape := ⟨4, ![256, 1, 1, 128]⟩
abbrev S1x2x256x128 : Shape := ⟨4, ![1, 2, 256, 128]⟩
abbrev S1x1x256x128 : Shape := ⟨4, ![1, 1, 256, 128]⟩
abbrev S4096x64 : Shape := ⟨2, ![4096, 64]⟩
abbrev S2048x64 : Shape := ⟨2, ![2048, 64]⟩
abbrev S2048x128 : Shape := ⟨2, ![2048, 128]⟩
abbrev S2048x1 : Shape := ⟨2, ![2048, 1]⟩
abbrev S1x2x1024x128 : Shape := ⟨4, ![1, 2, 1024, 128]⟩
abbrev S1x1x1024x128 : Shape := ⟨4, ![1, 1, 1024, 128]⟩
abbrev S2x2x512x128 : Shape := ⟨4, ![2, 2, 512, 128]⟩
abbrev S2x1x512x128 : Shape := ⟨4, ![2, 1, 512, 128]⟩
abbrev S4x2x256x128 : Shape := ⟨4, ![4, 2, 256, 128]⟩
abbrev S4x1x256x128 : Shape := ⟨4, ![4, 1, 256, 128]⟩
abbrev S8x2x128x128 : Shape := ⟨4, ![8, 2, 128, 128]⟩
abbrev S8x1x128x128 : Shape := ⟨4, ![8, 1, 128, 128]⟩
abbrev S16x2x64x128 : Shape := ⟨4, ![16, 2, 64, 128]⟩
abbrev S16x1x64x128 : Shape := ⟨4, ![16, 1, 64, 128]⟩
abbrev S32x2x32x128 : Shape := ⟨4, ![32, 2, 32, 128]⟩
abbrev S32x1x32x128 : Shape := ⟨4, ![32, 1, 32, 128]⟩
abbrev S64x2x16x128 : Shape := ⟨4, ![64, 2, 16, 128]⟩
abbrev S64x1x16x128 : Shape := ⟨4, ![64, 1, 16, 128]⟩
abbrev S128x2x8x128 : Shape := ⟨4, ![128, 2, 8, 128]⟩
abbrev S128x1x8x128 : Shape := ⟨4, ![128, 1, 8, 128]⟩
abbrev S256x2x4x128 : Shape := ⟨4, ![256, 2, 4, 128]⟩
abbrev S256x1x4x128 : Shape := ⟨4, ![256, 1, 4, 128]⟩
abbrev S512x2x2x128 : Shape := ⟨4, ![512, 2, 2, 128]⟩
abbrev S512x1x2x128 : Shape := ⟨4, ![512, 1, 2, 128]⟩
abbrev S1024x2x1x128 : Shape := ⟨4, ![1024, 2, 1, 128]⟩
abbrev S1024x1x1x128 : Shape := ⟨4, ![1024, 1, 1, 128]⟩

abbrev nBuf : Space → Nat
  | .hbm => 2
  | .vmem => 3
  | .smem => 0
  | _ => 0

abbrev bufTy : (tb : Table) → Fin (tcTables nBuf tb) → BufTy
  | .hbm, ⟨0, _⟩ => ⟨S128x64, .bf16⟩
  | .hbm, ⟨1, _⟩ => ⟨S128x64, .bf16⟩
  | .local _ .vmem, ⟨0, _⟩ => ⟨S128x64, .bf16⟩
  | .local _ .vmem, ⟨1, _⟩ => ⟨S128x64, .bf16⟩
  | .local _ .vmem, ⟨2, _⟩ => ⟨S32x128x64, .bf16⟩
  | _, _ => ⟨S128x64, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v23 : BitVec 32 := Scalar.addi v20 c1_i32_7
  let c8_i32_8 : BitVec 32 := 8#32
  let v24 : BitVec 32 := Scalar.remsi v23 c8_i32_8
  let v25 : BitVec 32 := Scalar.addi v21 v24
  let c1_i32_10 : BitVec 32 := 1#32
  let v26 : BitVec 32 := Scalar.muli v25 c1_i32_10
  let v27 : BitVec 32 := Scalar.addi c0_i32_11 v26
  v27.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c2_i32 : BitVec 32 := 2#32
  let v28 : BitVec 32 := Scalar.addi v20 c2_i32
  let c8_i32_12 : BitVec 32 := 8#32
  let v29 : BitVec 32 := Scalar.remsi v28 c8_i32_12
  let v30 : BitVec 32 := Scalar.addi v21 v29
  let c1_i32_14 : BitVec 32 := 1#32
  let v31 : BitVec 32 := Scalar.muli v30 c1_i32_14
  let v32 : BitVec 32 := Scalar.addi c0_i32_15 v31
  v32.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c3_i32 : BitVec 32 := 3#32
  let v33 : BitVec 32 := Scalar.addi v20 c3_i32
  let c8_i32_16 : BitVec 32 := 8#32
  let v34 : BitVec 32 := Scalar.remsi v33 c8_i32_16
  let v35 : BitVec 32 := Scalar.addi v21 v34
  let c1_i32_18 : BitVec 32 := 1#32
  let v36 : BitVec 32 := Scalar.muli v35 c1_i32_18
  let v37 : BitVec 32 := Scalar.addi c0_i32_19 v36
  v37.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c4_i32 : BitVec 32 := 4#32
  let v38 : BitVec 32 := Scalar.addi v20 c4_i32
  let c8_i32_20 : BitVec 32 := 8#32
  let v39 : BitVec 32 := Scalar.remsi v38 c8_i32_20
  let v40 : BitVec 32 := Scalar.addi v21 v39
  let c1_i32_22 : BitVec 32 := 1#32
  let v41 : BitVec 32 := Scalar.muli v40 c1_i32_22
  let v42 : BitVec 32 := Scalar.addi c0_i32_23 v41
  v42.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c5_i32 : BitVec 32 := 5#32
  let v43 : BitVec 32 := Scalar.addi v20 c5_i32
  let c8_i32_24 : BitVec 32 := 8#32
  let v44 : BitVec 32 := Scalar.remsi v43 c8_i32_24
  let v45 : BitVec 32 := Scalar.addi v21 v44
  let c1_i32_26 : BitVec 32 := 1#32
  let v46 : BitVec 32 := Scalar.muli v45 c1_i32_26
  let v47 : BitVec 32 := Scalar.addi c0_i32_27 v46
  v47.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c6_i32 : BitVec 32 := 6#32
  let v48 : BitVec 32 := Scalar.addi v20 c6_i32
  let c8_i32_28 : BitVec 32 := 8#32
  let v49 : BitVec 32 := Scalar.remsi v48 c8_i32_28
  let v50 : BitVec 32 := Scalar.addi v21 v49
  let c1_i32_30 : BitVec 32 := 1#32
  let v51 : BitVec 32 := Scalar.muli v50 c1_i32_30
  let v52 : BitVec 32 := Scalar.addi c0_i32_31 v51
  v52.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c7_i32 : BitVec 32 := 7#32
  let v53 : BitVec 32 := Scalar.addi v20 c7_i32
  let c8_i32_32 : BitVec 32 := 8#32
  let v54 : BitVec 32 := Scalar.remsi v53 c8_i32_32
  let v55 : BitVec 32 := Scalar.addi v21 v54
  let c1_i32_34 : BitVec 32 := 1#32
  let v56 : BitVec 32 := Scalar.muli v55 c1_i32_34
  let v57 : BitVec 32 := Scalar.addi c0_i32_35 v56
  v57.toNat
def k0_dev8 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v58 : BitVec 32 := Scalar.addi v19 c1_i32_36
  let c4_i32_37 : BitVec 32 := 4#32
  let v59 : BitVec 32 := Scalar.remsi v58 c4_i32_37
  let c8_i32_38 : BitVec 32 := 8#32
  let v60 : BitVec 32 := Scalar.muli v59 c8_i32_38
  let c8_i32_5 : BitVec 32 := 8#32
  let v20 : BitVec 32 := Scalar.remsi v2 c8_i32_5
  let v61 : BitVec 32 := Scalar.addi v60 v20
  let c1_i32_40 : BitVec 32 := 1#32
  let v62 : BitVec 32 := Scalar.muli v61 c1_i32_40
  let v63 : BitVec 32 := Scalar.addi c0_i32_41 v62
  v63.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_42 : BitVec 32 := 2#32
  let v64 : BitVec 32 := Scalar.addi v19 c2_i32_42
  let c4_i32_43 : BitVec 32 := 4#32
  let v65 : BitVec 32 := Scalar.remsi v64 c4_i32_43
  let c8_i32_44 : BitVec 32 := 8#32
  let v66 : BitVec 32 := Scalar.muli v65 c8_i32_44
  let c8_i32_5 : BitVec 32 := 8#32
  let v20 : BitVec 32 := Scalar.remsi v2 c8_i32_5
  let v67 : BitVec 32 := Scalar.addi v66 v20
  let c1_i32_46 : BitVec 32 := 1#32
  let v68 : BitVec 32 := Scalar.muli v67 c1_i32_46
  let v69 : BitVec 32 := Scalar.addi c0_i32_47 v68
  v69.toNat
def k0_dev10 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_48 : BitVec 32 := 3#32
  let v70 : BitVec 32 := Scalar.addi v19 c3_i32_48
  let c4_i32_49 : BitVec 32 := 4#32
  let v71 : BitVec 32 := Scalar.remsi v70 c4_i32_49
  let c8_i32_50 : BitVec 32 := 8#32
  let v72 : BitVec 32 := Scalar.muli v71 c8_i32_50
  let c8_i32_5 : BitVec 32 := 8#32
  let v20 : BitVec 32 := Scalar.remsi v2 c8_i32_5
  let v73 : BitVec 32 := Scalar.addi v72 v20
  let c1_i32_52 : BitVec 32 := 1#32
  let v74 : BitVec 32 := Scalar.muli v73 c1_i32_52
  let v75 : BitVec 32 := Scalar.addi c0_i32_53 v74
  v75.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v663 : Index := Scalar.indexCast v2
  let c0_193 : Index := 0#32
  let c0_194 : Index := 0#32
  ![v663.toNat, 0, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_201 : BitVec 32 := 0#32
  let c0_i32_202 : BitVec 32 := 0#32
  ![v2.toNat, 0, 0]
def k0_dev11 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_195 : BitVec 32 := 1#32
  let v667 : BitVec 32 := Scalar.addi v20 c1_i32_195
  let c8_i32_196 : BitVec 32 := 8#32
  let v668 : BitVec 32 := Scalar.remsi v667 c8_i32_196
  let v669 : BitVec 32 := Scalar.addi v21 v668
  let c1_i32_199 : BitVec 32 := 1#32
  let v670 : BitVec 32 := Scalar.muli v669 c1_i32_199
  let v671 : BitVec 32 := Scalar.addi c0_i32_200 v670
  v671.toNat
def k0_dev12 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c2_i32_205 : BitVec 32 := 2#32
  let v680 : BitVec 32 := Scalar.addi v20 c2_i32_205
  let c8_i32_206 : BitVec 32 := 8#32
  let v681 : BitVec 32 := Scalar.remsi v680 c8_i32_206
  let v682 : BitVec 32 := Scalar.addi v21 v681
  let c1_i32_209 : BitVec 32 := 1#32
  let v683 : BitVec 32 := Scalar.muli v682 c1_i32_209
  let v684 : BitVec 32 := Scalar.addi c0_i32_210 v683
  v684.toNat
def k0_dev13 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c3_i32_215 : BitVec 32 := 3#32
  let v693 : BitVec 32 := Scalar.addi v20 c3_i32_215
  let c8_i32_216 : BitVec 32 := 8#32
  let v694 : BitVec 32 := Scalar.remsi v693 c8_i32_216
  let v695 : BitVec 32 := Scalar.addi v21 v694
  let c1_i32_219 : BitVec 32 := 1#32
  let v696 : BitVec 32 := Scalar.muli v695 c1_i32_219
  let v697 : BitVec 32 := Scalar.addi c0_i32_220 v696
  v697.toNat
def k0_dev14 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c4_i32_225 : BitVec 32 := 4#32
  let v706 : BitVec 32 := Scalar.addi v20 c4_i32_225
  let c8_i32_226 : BitVec 32 := 8#32
  let v707 : BitVec 32 := Scalar.remsi v706 c8_i32_226
  let v708 : BitVec 32 := Scalar.addi v21 v707
  let c1_i32_229 : BitVec 32 := 1#32
  let v709 : BitVec 32 := Scalar.muli v708 c1_i32_229
  let v710 : BitVec 32 := Scalar.addi c0_i32_230 v709
  v710.toNat
def k0_dev15 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c5_i32_235 : BitVec 32 := 5#32
  let v719 : BitVec 32 := Scalar.addi v20 c5_i32_235
  let c8_i32_236 : BitVec 32 := 8#32
  let v720 : BitVec 32 := Scalar.remsi v719 c8_i32_236
  let v721 : BitVec 32 := Scalar.addi v21 v720
  let c1_i32_239 : BitVec 32 := 1#32
  let v722 : BitVec 32 := Scalar.muli v721 c1_i32_239
  let v723 : BitVec 32 := Scalar.addi c0_i32_240 v722
  v723.toNat
def k0_dev16 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c6_i32_245 : BitVec 32 := 6#32
  let v732 : BitVec 32 := Scalar.addi v20 c6_i32_245
  let c8_i32_246 : BitVec 32 := 8#32
  let v733 : BitVec 32 := Scalar.remsi v732 c8_i32_246
  let v734 : BitVec 32 := Scalar.addi v21 v733
  let c1_i32_249 : BitVec 32 := 1#32
  let v735 : BitVec 32 := Scalar.muli v734 c1_i32_249
  let v736 : BitVec 32 := Scalar.addi c0_i32_250 v735
  v736.toNat
def k0_dev17 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c7_i32_255 : BitVec 32 := 7#32
  let v745 : BitVec 32 := Scalar.addi v20 c7_i32_255
  let c8_i32_256 : BitVec 32 := 8#32
  let v746 : BitVec 32 := Scalar.remsi v745 c8_i32_256
  let v747 : BitVec 32 := Scalar.addi v21 v746
  let c1_i32_259 : BitVec 32 := 1#32
  let v748 : BitVec 32 := Scalar.muli v747 c1_i32_259
  let v749 : BitVec 32 := Scalar.addi c0_i32_260 v748
  v749.toNat
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let v858 : Index := Scalar.indexCast v21
  let c0_372 : Index := 0#32
  let c0_373 : Index := 0#32
  ![v858.toNat, 0, 0]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c0_i32_476 : BitVec 32 := 0#32
  let c0_i32_477 : BitVec 32 := 0#32
  ![v21.toNat, 0, 0]
def k0_dev18 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_469 : BitVec 32 := 1#32
  let v1374 : BitVec 32 := Scalar.addi v19 c1_i32_469
  let c4_i32_470 : BitVec 32 := 4#32
  let v1375 : BitVec 32 := Scalar.remsi v1374 c4_i32_470
  let c8_i32_471 : BitVec 32 := 8#32
  let v1376 : BitVec 32 := Scalar.muli v1375 c8_i32_471
  let c8_i32_5 : BitVec 32 := 8#32
  let v20 : BitVec 32 := Scalar.remsi v2 c8_i32_5
  let v1377 : BitVec 32 := Scalar.addi v1376 v20
  let c1_i32_474 : BitVec 32 := 1#32
  let v1378 : BitVec 32 := Scalar.muli v1377 c1_i32_474
  let v1379 : BitVec 32 := Scalar.addi c0_i32_475 v1378
  v1379.toNat
def k0_dev19 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_480 : BitVec 32 := 2#32
  let v1386 : BitVec 32 := Scalar.addi v19 c2_i32_480
  let c4_i32_481 : BitVec 32 := 4#32
  let v1387 : BitVec 32 := Scalar.remsi v1386 c4_i32_481
  let c8_i32_482 : BitVec 32 := 8#32
  let v1388 : BitVec 32 := Scalar.muli v1387 c8_i32_482
  let c8_i32_5 : BitVec 32 := 8#32
  let v20 : BitVec 32 := Scalar.remsi v2 c8_i32_5
  let v1389 : BitVec 32 := Scalar.addi v1388 v20
  let c1_i32_485 : BitVec 32 := 1#32
  let v1390 : BitVec 32 := Scalar.muli v1389 c1_i32_485
  let v1391 : BitVec 32 := Scalar.addi c0_i32_486 v1390
  v1391.toNat
def k0_dev20 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_491 : BitVec 32 := 3#32
  let v1398 : BitVec 32 := Scalar.addi v19 c3_i32_491
  let c4_i32_492 : BitVec 32 := 4#32
  let v1399 : BitVec 32 := Scalar.remsi v1398 c4_i32_492
  let c8_i32_493 : BitVec 32 := 8#32
  let v1400 : BitVec 32 := Scalar.muli v1399 c8_i32_493
  let c8_i32_5 : BitVec 32 := 8#32
  let v20 : BitVec 32 := Scalar.remsi v2 c8_i32_5
  let v1401 : BitVec 32 := Scalar.addi v1400 v20
  let c1_i32_495 : BitVec 32 := 1#32
  let v1402 : BitVec 32 := Scalar.muli v1401 c1_i32_495
  let v1403 : BitVec 32 := Scalar.addi c0_i32_496 v1402
  v1403.toNat
abbrev stage0_0 : Fin 1 → Memref sig .tc .vmem S128x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x64 : Shape := ⟨2, ![4096, 64]⟩

abbrev nBuf : Space → Nat
  | .hbm => 4
  | .vmem => 0
  | .smem => 0
  | _ => 0

abbrev bufTy : (tb : Table) → Fin (tcTables nBuf tb) → BufTy
  | .hbm, ⟨0, _⟩ => ⟨S4096x64, .bf16⟩
  | .hbm, ⟨1, _⟩ => ⟨S4096x64, .f32⟩
  | .hbm, ⟨2, _⟩ => ⟨S4096x64, .f32⟩
  | .hbm, ⟨3, _⟩ => ⟨S4096x64, .bf16⟩
  | _, _ => ⟨S4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Runs.lean ====
/-
# What the devices compute, as functions of the blocks they hold

The kernel's body computes three values: the sorted block of a device (`sortBlock`), the merged run of a group
of eight devices (`mergeGroup`), and the merge of the four runs (`mergeAll`). Each is written here as the chain of
the printed payloads, in the order in which the body's parts hand them on, with nothing interpreted; what they
mean is proved elsewhere. The same file says what the exchange buffer holds after each exchange.
-/
module

public import proofs.«01_k».proof.Proof.Gen.KernelIdeal
public import proofs.«01_k».proof.Proof.Gen.KernelIdeal.Skeleton
public import Idealize.ShloMosaic.Lib.ValueIdx

@[expose] public section

noncomputable section

namespace Cert.DevSort

open Cert.KernelIdeal Cert.KernelIdeal.Gen
open Idealize.ShloMosaic

variable {F : FTy → Type} [FloatOps F]

/-! ## The three computations -/

/-- The block `x` of one device sorted within the device, upwards for `d = 0` and downwards for `d = 1`, as the
    one-slot block that the body stores. -/
def sortBlock (d : BitVec 1) (x : FVec F S128x64 .bf16) : FVec F S1x128x64 .bf16 :=
  let w : IVec S128x1 32 := iota .tc S128x1 32 [0] iota_S128x1_d0_w32
  let a := k0_pay1 x
  let b := k0_pay2 x
  let c5 := k0_pay5 a w b k0_pay3 k0_pay4
  let c6 := k0_pay6 a w b k0_pay3 k0_pay4
  let c7 := k0_pay7 a w b k0_pay3 k0_pay4
  let c8 := k0_pay8 w c5 c6 c7
  let c9 := k0_pay9 w c5 c6 c7
  let c13 := k0_pay13 w
  let c14 := k0_pay14 w c8 c9 (k0_pay10 w) 1#32
  let c15 := k0_pay15 w c8 c9 (k0_pay10 w) 1#32
  let c16 := k0_pay16 w c13 c14 c15
  let c17 := k0_pay17 w c13 c14 c15
  let c19 := k0_pay19 w c16 c17 k0_pay18
  let c20 := k0_pay20 w c16 c17 k0_pay18
  let c23 := k0_pay23 w c19 c20 (k0_pay21 w) (k0_pay22 w)
  let c24 := k0_pay24 w c19 c20 (k0_pay21 w) (k0_pay22 w)
  let c25 := k0_pay25 w c19 c20 (k0_pay21 w) (k0_pay22 w)
  let c26 := k0_pay26 w c23 c24 c25
  let c27 := k0_pay27 w c23 c24 c25
  let c31 := k0_pay31 w
  let c32 := k0_pay32 w c26 c27 (k0_pay28 w) 8#32
  let c33 := k0_pay33 w c26 c27 (k0_pay28 w) 8#32
  let c34 := k0_pay34 d w c31 c32 c33
  let c35 := k0_pay35 d w c31 c32 c33
  let c36 := k0_pay36 d w c34 c35
  let c37 := k0_pay37 d w c34 c35
  let c39 := k0_pay39 d w c36 c37 (k0_pay38 w)
  let c40 := k0_pay40 d w c36 c37 (k0_pay38 w)
  k0_pay43 d w c39 c40 (k0_pay41 w) (k0_pay42 d)

/-- The merge of the eight blocks of a group, upwards for `g = 0` and downwards for `g = 1`. -/
def mergeGroup (g : BitVec 1) (x : FVec F S8x128x64 .bf16) : FVec F S8x128x64 .bf16 :=
  let w : IVec S512x1 32 := iota .tc S512x1 32 [0] iota_S512x1_d0_w32
  let l : IVec S1x128 32 := iota .tc S1x128 32 [1] iota_S1x128_d1_w32
  let c44 := k0_pay44 x
  let c45 := k0_pay45 x
  let c46 := k0_pay46 w c44 c45
  let c47 := k0_pay47 w c44 c45
  let c52 := k0_pay52 w c46 c47 (k0_pay48 w) (k0_pay49 w)
  let c53 := k0_pay53 w c46 c47 (k0_pay48 w) (k0_pay49 w)
  let c55 := k0_pay55 w c52 c53 (k0_pay54 w)
  let c56 := k0_pay56 w c52 c53 (k0_pay54 w)
  let c58 := k0_pay58 w l c55 c56 (k0_pay57 l) 256#32
  let c59 := k0_pay59 w l c55 c56 (k0_pay57 l) 256#32
  let c61 := k0_pay61 w l c58 c59 (k0_pay60 w l)
  let c62 := k0_pay62 w l c58 c59 (k0_pay60 w l)
  let c64 := k0_pay64 w l c61 c62 (k0_pay63 l) 8#32
  let c65 := k0_pay65 w l c61 c62 (k0_pay63 l) 8#32
  let c67 := k0_pay67 g w l c64 c65 (k0_pay66 w l)
  let c68 := k0_pay68 g w l c64 c65 (k0_pay66 w l)
  let c70 := k0_pay70 g w c67 c68 k0_pay69
  let c71 := k0_pay71 g w c67 c68 k0_pay69
  let c74 := k0_pay74 g w c70 c71 (k0_pay72 w) k0_pay73
  let c75 := k0_pay75 g w c70 c71 (k0_pay72 w) k0_pay73
  k0_pay78 g w c74 c75 (k0_pay76 w) (k0_pay77 g)

/-- The merge of all thirty-two blocks, upwards. -/
def mergeAll (x : FVec F S32x128x64 .bf16) : FVec F S32x128x64 .bf16 :=
  let w : IVec S2048x1 32 := iota .tc S2048x1 32 [0] iota_S2048x1_d0_w32
  let l : IVec S1x128 32 := iota .tc S1x128 32 [1] iota_S1x128_d1_w32
  let c79 := k0_pay79 x
  let c80 := k0_pay80 x
  let c83 := k0_pay83 w l c79 c80 k0_pay81 k0_pay82
  let c84 := k0_pay84 w l c79 c80 k0_pay81 k0_pay82
  let c85 := k0_pay85 w l c83 c84
  let c86 := k0_pay86 w l c83 c84
  let c89 := k0_pay89 w l c85 c86 (k0_pay87 w) (k0_pay88 l)
  let c90 := k0_pay90 w l c85 c86 (k0_pay87 w) (k0_pay88 l)
  let c91 := k0_pay91 w l c89 c90
  let c92 := k0_pay92 w l c89 c90
  let c94 := k0_pay94 w l c89 c90
  let c95 := k0_pay95 w c91 c92 (k0_pay93 w) c94
  let c96 := k0_pay96 w c91 c92 (k0_pay93 w) c94
  let c98 := k0_pay98 w c95 c96 (k0_pay97 w)
  let c99 := k0_pay99 w c95 c96 (k0_pay97 w)
  k0_pay100 w c98 c99

/-! ## What the exchange buffer holds -/

/-- The bit that turns a device's own sort round: `1` on the odd devices. -/
def devBit (c : Dev nD) : BitVec 1 := if c.val % 2 = 1 then 1#1 else 0#1
/-- The bit that turns a group's merge round: `1` in the odd groups. -/
def groupBit (c : Dev nD) : BitVec 1 := if c.val / 8 % 2 = 1 then 1#1 else 0#1

variable (x : Dev nD → FVec F S128x64 .bf16)

set_option backward.proofsInPublic true in
/-- The device whose number is a buffer index's first coordinate. -/
def slotDev (i : S32x128x64.Idx) : Dev nD := ⟨(i 0).val, (i 0).isLt⟩

/-- After the exchange within the groups: slot `s` holds the sorted block of device `s`. -/
def sorted1 : S32x128x64.Idx → F .bf16 := fun i => sortBlock (devBit (slotDev i)) (x (slotDev i)) (ValueIdx.ix3 (0 : Fin 1) (i 1) (i 2))

set_option backward.proofsInPublic true in
/-- The eight slots of device `c`'s group in a buffer. -/
def groupOf (f : S32x128x64.Idx → F .bf16) (c : Dev nD) : FVec F S8x128x64 .bf16 := fun j =>
  f (ValueIdx.ix3 (⟨c.val / 8 * 8 + (j 0).val, by have h := c.isLt; have h' : (j 0).val < 8 := (j 0).isLt; have : nD = 32 := rfl; omega⟩ : Fin 32) (j 1) (j 2))

set_option backward.proofsInPublic true in
/-- After the exchange between the groups: the eight slots of a group hold its merged run. -/
def sorted2 : S32x128x64.Idx → F .bf16 := fun i =>
  mergeGroup (groupBit (slotDev i)) (groupOf (sorted1 x) (slotDev i)) (ValueIdx.ix3 (⟨(i 0).val % 8, Nat.mod_lt _ (by decide)⟩ : Fin 8) (i 1) (i 2))

/-- After the last merge. -/
def sorted3 : S32x128x64.Idx → F .bf16 := mergeAll (sorted2 x)

/-- What device `c` writes out: its slot of the last merge. -/
def result (c : Dev nD) : FVec F S128x64 .bf16 := k0_pay101 (fun j => sorted3 x (ValueIdx.ix3 (c : Fin 32) (j 1) (j 2)))

end Cert.DevSort
-- ==== Proof.Geometry.lean ====
/-
# The devices' peers and the regions of the exchange buffer

Every device signals, and sends to, ten peers: the seven other devices of its group of eight (numbers 0 to 6) and
the three devices of the same rank in the other groups (numbers 7 to 9). A device's group copies move its own slot
of the exchange buffer, its copies between groups the eight slots of its group. This file names the peers and the
regions, and proves what a load, a store or a copy through one of the body's views reads and writes.
-/
module

public import proofs.«01_k».proof.Proof.Runs
public import Idealize.ShloMosaic.Lib.Pipeline.ValueKit.Geometry
public import Idealize.ShloMosaic.Lib.Tactic

@[expose] public section

noncomputable section

namespace Cert.DevSort

open Cert.KernelIdeal Cert.KernelIdeal.Gen
open Idealize.ShloMosaic
open Idealize.ShloMosaic.ValueIdx (ix3)

variable {F : FTy → Type} [FloatOps F]

/-! ## Peers -/

set_option backward.proofsInPublic true in
/-- Peer `k` of device `c`: for `k < 7` the device `k + 1` further round its group, else the device of its rank `k - 6` groups on. -/
def peer (c : Dev nD) (k : Fin 10) : Dev nD :=
  if k.val < 7 then ⟨c.val / 8 * 8 + (c.val % 8 + k.val + 1) % 8, by have h := c.isLt; have : nD = 32 := rfl; omega⟩
  else ⟨(c.val / 8 + (k.val - 6)) % 4 * 8 + c.val % 8, by have : nD = 32 := rfl; omega⟩

set_option backward.proofsInPublic true in
/-- The number under which a peer sees the device that has it as peer `k`. -/
def back (k : Fin 10) : Fin 10 := if h : k.val < 7 then ⟨6 - k.val, by omega⟩ else ⟨16 - k.val, by omega⟩

/-- Turning the number round twice gives it back. -/
theorem back_back (k : Fin 10) : back (back k) = k := by revert k; decide
/-- A peer of the same group stays one. -/
theorem back_lt (k : Fin 10) : (back k).val < 7 ↔ k.val < 7 := by revert k; decide
/-- The device that peer `k` sees under the number turned round is the device itself. -/
theorem peer_back (c : Dev nD) (k : Fin 10) : peer (peer c k) (back k) = c := by revert c k; decide +kernel
/-- The same with the two numbers exchanged. -/
theorem peer_back' (c : Dev nD) (k : Fin 10) : peer (peer c (back k)) k = c := by revert c k; decide +kernel

/-- Going to peer `k` permutes the devices. -/
def around (k : Fin 10) : Dev nD ≃ Dev nD := ⟨fun c => peer c k, fun c => peer c (back k), fun c => peer_back c k, fun c => peer_back' c k⟩

/-- The numbers of the peers, turned round. -/
def backE : Fin 10 ≃ Fin 10 := ⟨back, back, back_back, back_back⟩

/-- The devices that the ten signals go to (1 to 10) and that the ten copies go to (11 to 20) are the ten peers, in order. -/
theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 7 := by revert c; decide +kernel
theorem dev9_eq (c : Dev nD) : (⟨k0_dev9 c, k0_dev9_lt c⟩ : Dev nD) = peer c 8 := by revert c; decide +kernel
theorem dev10_eq (c : Dev nD) : (⟨k0_dev10 c, k0_dev10_lt c⟩ : Dev nD) = peer c 9 := by revert c; decide +kernel
theorem dev11_eq (c : Dev nD) : (⟨k0_dev11 c, k0_dev11_lt c⟩ : Dev nD) = peer c 0 := by revert c; decide +kernel
theorem dev12_eq (c : Dev nD) : (⟨k0_dev12 c, k0_dev12_lt c⟩ : Dev nD) = peer c 1 := by revert c; decide +kernel
theorem dev13_eq (c : Dev nD) : (⟨k0_dev13 c, k0_dev13_lt c⟩ : Dev nD) = peer c 2 := by revert c; decide +kernel
theorem dev14_eq (c : Dev nD) : (⟨k0_dev14 c, k0_dev14_lt c⟩ : Dev nD) = peer c 3 := by revert c; decide +kernel
theorem dev15_eq (c : Dev nD) : (⟨k0_dev15 c, k0_dev15_lt c⟩ : Dev nD) = peer c 4 := by revert c; decide +kernel
theorem dev16_eq (c : Dev nD) : (⟨k0_dev16 c, k0_dev16_lt c⟩ : Dev nD) = peer c 5 := by revert c; decide +kernel
theorem dev17_eq (c : Dev nD) : (⟨k0_dev17 c, k0_dev17_lt c⟩ : Dev nD) = peer c 6 := by revert c; decide +kernel
theorem dev18_eq (c : Dev nD) : (⟨k0_dev18 c, k0_dev18_lt c⟩ : Dev nD) = peer c 7 := by revert c; decide +kernel
theorem dev19_eq (c : Dev nD) : (⟨k0_dev19 c, k0_dev19_lt c⟩ : Dev nD) = peer c 8 := by revert c; decide +kernel
theorem dev20_eq (c : Dev nD) : (⟨k0_dev20 c, k0_dev20_lt c⟩ : Dev nD) = peer c 9 := by revert c; decide +kernel

/-- The group's slots begin at its first device's, as the body computes it for loads and stores; -/
theorem off3_eq (c : Dev nD) : k0_off3 c = ![c.val / 8 * 8, 0, 0] := by revert c; decide +kernel
/-- and as it computes it for copies. -/
theorem off4_eq (c : Dev nD) : k0_off4 c = ![c.val / 8 * 8, 0, 0] := by revert c; decide +kernel

/-! ## The views of the exchange buffer -/

/-- The exchange buffer: thirty-two slots of one block each. -/
abbrev scM : Memref sig .tc .vmem S32x128x64 .bf16 := Memref.whole cc0_scratch0

/-- Device `c`'s slot, as the copies within a group see it. -/
abbrev slotM (c : Dev nD) : Memref sig .tc .vmem S128x64 .bf16 :=
  (scM.slice (Rect.unit (s := S32x128x64) (k0_off2 c) S1x128x64.size (k0_off2_inb c)) (fun _ => rfl)).squeeze S128x64 squeezes_S1x128x64_S128x64

/-- The slots of device `c`'s group, as the copies between groups see them. -/
abbrev groupM (c : Dev nD) : Memref sig .tc .vmem S8x128x64 .bf16 :=
  scM.slice (Rect.unit (s := S32x128x64) (k0_off4 c) S8x128x64.size (k0_off4_inb c)) (fun _ => rfl)

/-- The elements of device `c`'s slot. -/
def slotSet (c : Dev nD) : Finset S32x128x64.Idx := Finset.univ.filter fun i => (i 0).val = c.val
/-- The elements of the slots of device `c`'s group. -/
def groupSet (c : Dev nD) : Finset S32x128x64.Idx := Finset.univ.filter fun i => (i 0).val / 8 = c.val / 8

/-- An element is in a device's slot when its first coordinate is the device's number. -/
theorem mem_slotSet (c : Dev nD) (i : S32x128x64.Idx) : i ∈ slotSet c ↔ (i 0).val = c.val := by
  unfold slotSet; rw [Finset.mem_filter]; exact ⟨fun h => h.2, fun h => ⟨Finset.mem_univ _, h⟩⟩
/-- An element is in a group's slots when its first coordinate is the number of a device of the group. -/
theorem mem_groupSet (c : Dev nD) (i : S32x128x64.Idx) : i ∈ groupSet c ↔ (i 0).val / 8 = c.val / 8 := by
  unfold groupSet; rw [Finset.mem_filter]; exact ⟨fun h => h.2, fun h => ⟨Finset.mem_univ _, h⟩⟩

/-- A one-slot rectangle at the device's number is its slot. -/
theorem mem_slotRect (off : Fin 3 → Nat) (inb) (c : Dev nD) (h : off = ![c.val, 0, 0]) (i : S32x128x64.Idx) :
    i ∈ (Rect.unit (s := S32x128x64) off S1x128x64.size inb).set ↔ i ∈ slotSet c := by
  subst h
  rw [Rect.mem_set_unit, mem_slotSet]
  have h1 : (i 1).val < 128 := (i 1).isLt
  have h2 : (i 2).val < 64 := (i 2).isLt
  constructor
  · intro h
    have h0 := h 0
    change c.val ≤ (i 0).val ∧ (i 0).val < c.val + 1 at h0
    omega
  · intro h a
    fin_cases a
    · change c.val ≤ (i 0).val ∧ (i 0).val < c.val + 1; omega
    · change 0 ≤ (i 1).val ∧ (i 1).val < 0 + 128; omega
    · change 0 ≤ (i 2).val ∧ (i 2).val < 0 + 64; omega

/-- An eight-slot rectangle at the group's first device is the group's slots. -/
theorem mem_groupRect (off : Fin 3 → Nat) (inb) (c : Dev nD) (h : off = ![c.val / 8 * 8, 0, 0]) (i : S32x128x64.Idx) :
    i ∈ (Rect.unit (s := S32x128x64) off S8x128x64.size inb).set ↔ i ∈ groupSet c := by
  subst h
  rw [Rect.mem_set_unit, mem_groupSet]
  have h1 : (i 1).val < 128 := (i 1).isLt
  have h2 : (i 2).val < 64 := (i 2).isLt
  constructor
  · intro h
    have h0 := h 0
    change c.val / 8 * 8 ≤ (i 0).val ∧ (i 0).val < c.val / 8 * 8 + 8 at h0
    omega
  · intro h a
    fin_cases a
    · change c.val / 8 * 8 ≤ (i 0).val ∧ (i 0).val < c.val / 8 * 8 + 8; omega
    · change 0 ≤ (i 1).val ∧ (i 1).val < 0 + 128; omega
    · change 0 ≤ (i 2).val ∧ (i 2).val < 0 + 64; omega

/-- A device's copies within its group read and write its slot. -/
theorem slotM_set (c : Dev nD) : (slotM c).view.set = slotSet c := by
  have h : (slotM c).view.set = (Rect.unit (s := S32x128x64) (k0_off2 c) S1x128x64.size (k0_off2_inb c)).set := by
    show (((View.whole cc0_scratch0).slice (Rect.unit (s := S32x128x64) (k0_off2 c) S1x128x64.size (k0_off2_inb c))).reshape _ _).set = _
    rw [View.set_reshape, View.set_slice_whole]
  rw [h]; ext i; exact mem_slotRect _ _ c (k0_off2_eq c) i

/-- Its copies between groups read and write its group's slots. -/
theorem groupM_set (c : Dev nD) : (groupM c).view.set = groupSet c := by
  have h : (groupM c).view.set = (Rect.unit (s := S32x128x64) (k0_off4 c) S8x128x64.size (k0_off4_inb c)).set := by
    show ((View.whole cc0_scratch0).slice (Rect.unit (s := S32x128x64) (k0_off4 c) S8x128x64.size (k0_off4_inb c))).set = _
    rw [View.set_slice_whole]
  rw [h]; ext i; exact mem_groupRect _ _ c (off4_eq c) i

/-- A copy that reads and writes through one view leaves the source's values where the view reaches. -/
theorem write_read_on {s : Shape} {e : EltTy} {Val : EltTy → Type} (v : View sig .tc .vmem s e) (fd X : v.ty.Contents Val) :
    ∀ i ∈ v.set, v.write Val fd (v.read Val X) Finset.univ i = X i := by
  intro i hi
  obtain ⟨j, -, rfl⟩ := Finset.mem_map.mp hi
  rw [View.write_emb_of_mem _ _ (Finset.mem_univ j), View.read_apply, cast_cast, cast_eq]

end Cert.DevSort
-- ==== Proof.Protocol.lean ====
/-
# The protocol between the devices

Device `c` has one barrier cell, ten send cells and ten receive cells, one of each of the last two for every peer.

* Barrier cell of `d`: ten duties of one unit. Duty `k` is paid by `peer d k`, and hands over the part of that peer's
  exchange buffer which `d`'s copy number `k` will write: `d`'s slot for a copy within the group (`k < 7`), the slots
  of `d`'s group for a copy between groups. After its one wait for ten units a device may therefore write into every peer.
* Send cell `k` of `c`: one duty of the copy's credit. It returns the share of `c`'s own slots which the copy read.
* Receive cell `k` of `d`: one duty of the copy's credit, paid by the device that has `d` as its peer `k`. It hands `d`
  those slots of its own exchange buffer back, holding what the copy brought: sorted blocks, or merged groups.

Levels: barrier cells 1, receive cells within a group 2, receive cells between groups 3, all others 0. When a device
waits it owes only cells of a higher level: at the barrier the ten copies, during the group's waits the three copies
between groups, afterwards nothing.
-/
module

public import proofs.«01_k».proof.Proof.Geometry
public import proofs.«01_k».proof.Proof.Gen.KernelIdeal.Launch
public import Idealize.ShloMosaic.Lib.Pipeline.Launch
public import Idealize.ShloMosaic.Lib.Pipeline.Kit

@[expose] public section

noncomputable section

namespace Cert.DevSort

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's and the protocol's, whose duties are the ten numbers of the peers -/

/-- The protocol's resource; -/
abbrev UB : Type := URounds (GSem nD τ sig) (Fin 10)
/-- the pipeline's and the protocol's together. -/
abbrev UU : Type := UR sig nD τ × UB

local notation "𝕄" => MT nD τ sig Unit (Elt F) ℕ UU ℕ

/-- The pipeline's place in it; -/
abbrev EP : Emb (UR sig nD τ) (MT nD τ sig Unit (Elt F) ℕ UU ℕ) := embL
/-- and the protocol's. -/
abbrev ER : Emb UB (MT nD τ sig Unit (Elt F) ℕ UU ℕ) := embR

/-! ## The cells -/

/-- The barrier's semaphore. -/
abbrev barS : Sem sig := (SemArray.scalar (sig.barrier 0 rfl) : Sems sig S_).sem

/-- The semaphore of copy `k` on the sending device. -/
def sendQ (k : Fin 10) : DmaSem sig := ⟨2 + k.val, by have := k.isLt; show 2 + k.val < 22; omega⟩
/-- The semaphore of copy `k` on the receiving device. -/
def recvQ (k : Fin 10) : DmaSem sig := ⟨12 + k.val, by have := k.isLt; show 12 + k.val < 22; omega⟩

/-- The barrier cell of device `c`. -/
abbrev barCell (c : Dev nD) : GSem nD τ sig := ((c : Thread nD τ), .reg barS)
/-- The cell of its copy `k` as sender; -/
abbrev sendCell (c : Dev nD) (k : Fin 10) : GSem nD τ sig := ((c : Thread nD τ), .dma (sendQ k))
/-- and as receiver. -/
abbrev recvCell (c : Dev nD) (k : Fin 10) : GSem nD τ sig := ((c : Thread nD τ), .dma (recvQ k))

/-- The credit of copy `k`. -/
def credit (k : Fin 10) : ℕ := if k.val < 7 then (slotM 0).view.dmaCredit else (groupM 0).view.dmaCredit

/-- A copy moves something. -/
theorem credit_pos (k : Fin 10) : 0 < credit k := by
  unfold credit; split
  · exact View.dmaCredit_pos _ (by decide)
  · exact View.dmaCredit_pos _ (by decide)

/-! ## The regions and their contents -/

/-- The exchange buffer of device `c`. -/
abbrev scLoc (c : Dev nD) : Loc nD τ sig := (c : Thread nD τ).loc cc0_scratch0

/-- The part of an exchange buffer which device `c`'s copy `k` reads and writes. -/
def region (c : Dev nD) (k : Fin 10) : Finset S32x128x64.Idx := if k.val < 7 then slotSet c else groupSet c

variable (x : Dev nD → FVec F S128x64 .bf16)

/-- What copy `k` carries: sorted blocks within a group, merged groups between groups. -/
def carried (k : Fin 10) : S32x128x64.Idx → F .bf16 := if k.val < 7 then sorted1 x else sorted2 x

/-- The numbers of the copies within a group. -/
def lows : Finset (Fin 10) := Finset.univ.filter fun k => k.val < 7
/-- The numbers of the copies between groups. -/
def highs : Finset (Fin 10) := Finset.univ.filter fun k => 7 ≤ k.val

/-- The share of its source that copy `k` holds: the seven copies within the group read one slot together, the three copies between groups one block. -/
def readShare (k : Fin 10) : PosShare TreeShare :=
  if k.val < 7 then Transfers.dealOf fullShare lows k else Transfers.dealOf fullShare highs k

/-! ## The schedule -/

/-- What duty `k` of `c`'s barrier cell hands over: the part of `peer c k`'s exchange buffer that `c` will write. -/
def barPay (c : Dev nD) (k : Fin 10) : sProp 𝕄 := iprop(∃ f : Buf (Elt F) (scLoc (peer c k)), scLoc (peer c k) ↦[region c k]{fullShare} f)
/-- What comes back when copy `k` has read its source. -/
def sendPay (c : Dev nD) (k : Fin 10) : sProp 𝕄 := scLoc c ↦[region c k]{readShare k} carried x k
/-- What copy `k` hands the device it arrives at. -/
def recvPay (c : Dev nD) (k : Fin 10) : sProp 𝕄 := scLoc c ↦[region (peer c (back k)) k]{fullShare} carried x k

/-- The number of the copy that a semaphore counts. -/
def numOf (q : DmaSem sig) : Fin 10 := ⟨(q.val + 8) % 10, Nat.mod_lt _ (by decide)⟩

/-- A send semaphore counts its own copy; -/
theorem numOf_send (k : Fin 10) : numOf (sendQ k) = k := by revert k; decide
/-- and so does a receive semaphore. -/
theorem numOf_recv (k : Fin 10) : numOf (recvQ k) = k := by revert k; decide
/-- The send semaphores come before the receive semaphores, -/
theorem send_lt (k : Fin 10) : (sendQ k).val < 12 := by revert k; decide
/-- which begin at 12; -/
theorem recv_ge (k : Fin 10) : ¬ (recvQ k).val < 12 := by revert k; decide
/-- both come after the pipeline's two. -/
theorem two_le_send (k : Fin 10) : 2 ≤ (sendQ k).val := by revert k; decide
/-- The same of the receive semaphores. -/
theorem two_le_recv (k : Fin 10) : 2 ≤ (recvQ k).val := by revert k; decide

/-- The duties of a semaphore's only round. -/
def dutiesOf : SemLoc sig → Finset (Fin 10)
  | .reg _ => Finset.univ
  | .dma q => if 2 ≤ q.val then {0} else ∅
/-- The units of one duty. -/
def amountOf : SemLoc sig → ℕ
  | .reg _ => 1
  | .dma q => credit (numOf q)
/-- What one duty hands over. -/
def payOf (c : Dev nD) : SemLoc sig → Fin 10 → sProp 𝕄
  | .reg _, d => barPay c d
  | .dma q, _ => if q.val < 12 then sendPay x c (numOf q) else recvPay x c (numOf q)

/-- The schedule: one round for every cell. -/
def sortRd : Rounds.Schedule (GSem nD τ sig) (Fin 10) 𝕄 where
  duties g r := if r = 0 ∧ g.1.2 = .tc then dutiesOf g.2 else ∅
  unitless _ := False
  amount g _ _ := amountOf g.2
  payload g _ d := payOf x g.1.1 g.2 d
  amount_pos g _ _ _ := by
    obtain ⟨t, s | q⟩ := g
    · exact Nat.one_pos
    · exact credit_pos _

/-- What a duty hands over can be kept in an invariant. -/
instance sortRd_payload_storable (g : GSem nD τ sig) (r : ℕ) (d : Fin 10) :
    BI.Storable (upEmb : UEmb _ 𝕄) ((sortRd (F := F) x).payload g r d) := by
  show BI.Storable upEmb (payOf x g.1.1 g.2 d)
  obtain ⟨t, s | q⟩ := g
  · show BI.Storable upEmb (barPay t.1 d); unfold barPay; infer_instance
  · show BI.Storable upEmb (if q.val < 12 then sendPay x t.1 (numOf q) else recvPay x t.1 (numOf q))
    unfold sendPay recvPay; split <;> infer_instance

/-- The barrier cell's duties are the ten peers'; -/
theorem duties_bar (c : Dev nD) : (sortRd (F := F) x).duties (barCell c) 0 = Finset.univ := by dsimp only [sortRd]; exact if_pos ⟨rfl, rfl⟩
/-- a send cell has one duty; -/
theorem duties_send (c : Dev nD) (k : Fin 10) : (sortRd (F := F) x).duties (sendCell c k) 0 = {0} := by
  dsimp only [sortRd]; rw [if_pos ⟨rfl, rfl⟩]; exact if_pos (two_le_send k)
/-- and so has a receive cell. -/
theorem duties_recv (c : Dev nD) (k : Fin 10) : (sortRd (F := F) x).duties (recvCell c k) 0 = {0} := by
  dsimp only [sortRd]; rw [if_pos ⟨rfl, rfl⟩]; exact if_pos (two_le_recv k)
/-- There are no duties after the first round. -/
theorem duties_later (g : GSem nD τ sig) : ∀ r, 1 ≤ r → (sortRd (F := F) x).duties g r = ∅ :=
  fun r hr => by dsimp only [sortRd]; rw [if_neg fun h => by omega]

/-- A signal brings one unit; -/
theorem amount_bar (c : Dev nD) (d : Fin 10) : (sortRd (F := F) x).amount (barCell c) 0 d = 1 := rfl
/-- a copy brings its credit to the sender; -/
theorem amount_send (c : Dev nD) (k d : Fin 10) : (sortRd (F := F) x).amount (sendCell c k) 0 d = credit k := by
  show credit (numOf (sendQ k)) = _; rw [numOf_send]
/-- and to the receiver. -/
theorem amount_recv (c : Dev nD) (k d : Fin 10) : (sortRd (F := F) x).amount (recvCell c k) 0 d = credit k := by
  show credit (numOf (recvQ k)) = _; rw [numOf_recv]

/-- The barrier cell awaits ten units; -/
theorem expect_bar (c : Dev nD) : (sortRd (F := F) x).expect (barCell c) 0 = 10 := by
  unfold Schedule.expect Schedule.amountOf
  rw [duties_bar, Finset.sum_congr rfl fun d _ => amount_bar x c d, Finset.sum_const, Finset.card_univ, Fintype.card_fin, smul_eq_mul]
/-- a send cell its copy's credit; -/
theorem expect_send (c : Dev nD) (k : Fin 10) : (sortRd (F := F) x).expect (sendCell c k) 0 = credit k := by
  unfold Schedule.expect Schedule.amountOf; rw [duties_send, Finset.sum_singleton, amount_send]
/-- and so does a receive cell. -/
theorem expect_recv (c : Dev nD) (k : Fin 10) : (sortRd (F := F) x).expect (recvCell c k) 0 = credit k := by
  unfold Schedule.expect Schedule.amountOf; rw [duties_recv, Finset.sum_singleton, amount_recv]

/-- What the duties hand over: at the barrier cell, -/
theorem payload_bar (c : Dev nD) (d : Fin 10) : (sortRd (F := F) x).payload (barCell c) 0 d = barPay c d := rfl
/-- at a send cell, -/
theorem payload_send (c : Dev nD) (k d : Fin 10) : (sortRd (F := F) x).payload (sendCell c k) 0 d = sendPay x c k := by
  show (if (sendQ k).val < 12 then sendPay x c (numOf (sendQ k)) else _) = _; rw [if_pos (send_lt k), numOf_send]
/-- and at a receive cell. -/
theorem payload_recv (c : Dev nD) (k d : Fin 10) : (sortRd (F := F) x).payload (recvCell c k) 0 d = recvPay x c k := by
  show (if (recvQ k).val < 12 then _ else recvPay x c (numOf (recvQ k))) = _; rw [if_neg (recv_ge k), numOf_recv]

/-- All that the barrier's round hands over: what each of the ten peers gives. -/
theorem rest_bar (c : Dev nD) : bigSep ((sortRd (F := F) x).duties (barCell c) 0 \ ∅) (fun d => (sortRd (F := F) x).payload (barCell c) 0 d)
    = bigSep Finset.univ fun d => barPay (F := F) c d := by
  rw [Finset.sdiff_empty, duties_bar]; rfl
/-- All that a send cell's round hands over; -/
theorem rest_send (c : Dev nD) (k : Fin 10) : bigSep ((sortRd (F := F) x).duties (sendCell c k) 0 \ ∅) (fun d => (sortRd (F := F) x).payload (sendCell c k) 0 d)
    = sendPay x c k := by
  rw [Finset.sdiff_empty, duties_send, bigSep_singleton, payload_send]
/-- and a receive cell's. -/
theorem rest_recv (c : Dev nD) (k : Fin 10) : bigSep ((sortRd (F := F) x).duties (recvCell c k) 0 \ ∅) (fun d => (sortRd (F := F) x).payload (recvCell c k) 0 d)
    = recvPay x c k := by
  rw [Finset.sdiff_empty, duties_recv, bigSep_singleton, payload_recv]

/-! ## What a device owes, and the levels -/

/-- The copy that is still to start when `n + 1` are left, the last one having number 9. -/
def nth (n : ℕ) : Fin 10 := ⟨9 - n, by omega⟩

/-- The credit owed to the receive cells by the last `n` copies. -/
def oweR (c : Dev nD) : ℕ → CellTallies nD τ sig Unit
  | 0 => 0
  | n + 1 => oweR c n + tallyAt (recvCell (peer c (nth n)) (nth n)) () (credit (nth n))
/-- All ten copies' credit and the units of the last `n` signals. -/
def oweB (c : Dev nD) : ℕ → CellTallies nD τ sig Unit
  | 0 => oweR c 10
  | n + 1 => oweB c n + tallyAt (barCell (peer c (nth n))) () 1

/-- What a device owes at launch. -/
abbrev O₀ (c : Dev nD) : CellTallies nD τ sig Unit := oweB c 10

/-- Only the semaphores of the running threads have levels. -/
def L (g : GSem nD τ sig) : Finset Unit := if g.1.2 = .tc then {()} else ∅
/-- The level of a semaphore. -/
def lvOf : SemLoc sig → ℕ
  | .reg _ => 1
  | .dma q => if q.val < 12 then 0 else if q.val < 19 then 2 else 3
/-- The level of a cell. -/
def lv (g : GSem nD τ sig) (_ : Unit) : ℕ := lvOf g.2

/-- Other threads' semaphores have none; -/
theorem L_of_ne (g : GSem nD τ sig) (h : g.1.2 ≠ .tc) : L g = ∅ := if_neg h
/-- these have one. -/
theorem L_tc (c : Dev nD) (sm : SemLoc sig) : L ((c : Thread nD τ), sm) = {()} := if_pos rfl

/-- What is owed of the last `n` copies is owed to their receive cells. -/
theorem oweR_pos {c : Dev nD} {n : ℕ} {g : GSem nD τ sig} {u : Unit} (h : 0 < oweR c n g u) :
    ∃ k : Fin 10, 10 - n ≤ k.val ∧ g = recvCell (peer c k) k := by
  induction n with
  | zero => exact absurd h (Nat.lt_irrefl 0)
  | succ n ih =>
    rw [oweR, Pi.add_apply, Finsupp.add_apply, tallyAt_apply] at h
    by_cases hg : g = recvCell (peer c (nth n)) (nth n) ∧ u = ()
    · exact ⟨nth n, by show 10 - (n + 1) ≤ 9 - n; omega, hg.1⟩
    · rw [if_neg hg, Nat.add_zero] at h
      obtain ⟨k, hk, e⟩ := ih h
      exact ⟨k, by omega, e⟩

/-- What is owed at the barrier is owed to peers' receive cells or barrier cells. -/
theorem oweB_pos {c : Dev nD} {n : ℕ} {g : GSem nD τ sig} {u : Unit} (h : 0 < oweB c n g u) :
    (∃ k : Fin 10, g = recvCell (peer c k) k) ∨ ∃ k : Fin 10, g = barCell (peer c k) := by
  induction n with
  | zero => obtain ⟨k, -, e⟩ := oweR_pos h; exact .inl ⟨k, e⟩
  | succ n ih =>
    rw [oweB, Pi.add_apply, Finsupp.add_apply, tallyAt_apply] at h
    by_cases hg : g = barCell (peer c (nth n)) ∧ u = ()
    · exact .inr ⟨nth n, hg.1⟩
    · rw [if_neg hg, Nat.add_zero] at h; exact ih h

/-- The receive cells lie above the barrier cells. -/
theorem lvOf_recv_pos (k : Fin 10) : 1 < lvOf (.dma (recvQ k)) := by revert k; decide

/-- The pipeline's own waits lie below everything a device owes. -/
theorem mayWait_stage (c : Dev nD) (q : DmaSem sig) (hq : q.val < 12) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweB_pos hg with ⟨k, rfl⟩ | ⟨k, rfl⟩ <;> exact Finset.mem_singleton_self _)
      (fun p hp => by rw [Finset.mem_singleton.mp hp]; show (if q.val < 12 then 0 else _) ≤ 0; rw [if_pos hq])
      (fun g u hg => by
        rcases oweB_pos hg with ⟨k, rfl⟩ | ⟨k, rfl⟩
        · exact lt_trans Nat.one_pos (lvOf_recv_pos k)
        · exact Nat.one_pos)
  · rw [MayWait_zero]; iintro -; iempintro

/-- At the barrier a device owes the receive cells only, which lie above. -/
theorem mayWait_bar (c : Dev nD) : (levAts L lv : sProp 𝕄) ⊢ MayWait (c : Thread nD τ) (.reg barS) () (oweR c 10) :=
  MayOwe.of_cut (L := L) (lev := lv) 1 (fun p hp => by rw [Finset.mem_singleton.mp hp, L_tc]; exact Finset.mem_singleton_self _)
    (fun g u hg => by obtain ⟨k, -, rfl⟩ := oweR_pos hg; exact Finset.mem_singleton_self _)
    (fun p hp => by rw [Finset.mem_singleton.mp hp]; exact le_refl 1)
    (fun g u hg => by obtain ⟨k, -, rfl⟩ := oweR_pos hg; exact lvOf_recv_pos k)

/-- During the group's waits a device owes the three copies between groups only, whose receive cells lie above. -/
theorem mayWait_low (c : Dev nD) (q : DmaSem sig) (hq : q.val < 19) : (levAts L lv : sProp 𝕄) ⊢ MayWait (c : Thread nD τ) (.dma q) () (oweR c 3) :=
  MayOwe.of_cut (L := L) (lev := lv) 2 (fun p hp => by rw [Finset.mem_singleton.mp hp, L_tc]; exact Finset.mem_singleton_self _)
    (fun g u hg => by obtain ⟨k, -, rfl⟩ := oweR_pos hg; exact Finset.mem_singleton_self _)
    (fun p hp => by
      rw [Finset.mem_singleton.mp hp]
      show (if q.val < 12 then 0 else if q.val < 19 then 2 else 3) ≤ 2
      split
      · exact Nat.zero_le _
      · exact le_refl 2)
    (fun g u hg => by
      obtain ⟨k, hk, rfl⟩ := oweR_pos hg
      show 2 < lvOf (.dma (recvQ k))
      have : ∀ k : Fin 10, 7 ≤ k.val → 2 < lvOf (.dma (recvQ k)) := by decide
      exact this k hk)

/-- Nothing owed: a device may wait. -/
theorem mayWait_none (c : Dev nD) (q : DmaSem sig) : (levAts L lv : sProp 𝕄) ⊢ MayWait (c : Thread nD τ) (.dma q) () (oweR c 0) := by
  show _ ⊢ MayWait _ _ _ 0
  rw [MayWait_zero]; iintro -; iempintro

end Cert.DevSort
-- ==== Proof.Steps.lean ====
/-
# The steps of the protocol

One rule for each kind of effect between devices: a signal to a peer's barrier cell, the barrier's wait, a copy to a
peer, the wait for a copy's reading end and the wait for its arrival. Each is stated for an arbitrary device and an
arbitrary peer number, over the records shared by all devices.
-/
module

public import proofs.«01_k».proof.Proof.Protocol

@[expose] public section

noncomputable section

namespace Cert.DevSort

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- No loop needs a variant. -/
abbrev 𝒱₀ : Variants := Variants.none

/-- A device's cells: the barrier cell, or for each peer the send cell (0) and the receive cell (1). -/
abbrev CellIx : Type := Option (Fin 2 × Fin 10)

/-- The semaphore of a cell; -/
abbrev csem : CellIx → SemLoc sig
  | none => .reg barS
  | some bk => .dma (if bk.1 = 0 then sendQ bk.2 else recvQ bk.2)
/-- the cell with its device. -/
abbrev kcell (ck : Dev nD × CellIx) : GSem nD τ sig := ((ck.1 : Thread nD τ), csem ck.2)

variable (x : Dev nD → FVec F S128x64 .bf16) (K : Dev nD × CellIx → ℕ)

/-- What all devices know: every cell's invariant, and that its round 0 is reached. -/
def records : sProp 𝕄 :=
  iprop((bigSep Finset.univ fun ck : Dev nD × CellIx => cellInv ER (sortRd x) (K ck) (kcell ck))
    ∗ bigSep Finset.univ fun ck : Dev nD × CellIx => reached ER (kcell ck) 0)

/-- What all devices know they know for good. -/
instance records_persistent : BI.Persistent (records x K) := by unfold records; infer_instance

/-- What holds of every cell holds of one. -/
theorem every_at (Φ : Dev nD × CellIx → sProp 𝕄) (ck : Dev nD × CellIx) : (bigSep Finset.univ fun ck => Φ ck) ⊢ Φ ck := bigSep_elim (Finset.mem_univ ck)

/-- Every cell has its invariant, -/
theorem inv_at (ck : Dev nD × CellIx) : records x K ⊢ cellInv ER (sortRd x) (K ck) (kcell ck) := by
  unfold records
  iintro ⟨H, -⟩
  iapply (every_at (F := F) (fun ck => cellInv ER (sortRd x) (K ck) (kcell ck)) ck); iexact H
/-- and its round 0 is reached: -/
theorem reached_at (ck : Dev nD × CellIx) : records x K ⊢ reached ER (kcell ck) 0 := by
  unfold records
  iintro ⟨-, H⟩
  iapply (every_at (F := F) (fun ck => reached ER (kcell ck) 0) ck); iexact H

/-- the invariant of a barrier cell, -/
theorem inv_bar (c : Dev nD) : records x K ⊢ cellInv ER (sortRd x) (K (c, none)) (barCell c) := inv_at x K (c, none)
/-- of a send cell -/
theorem inv_send (c : Dev nD) (k : Fin 10) : records x K ⊢ cellInv ER (sortRd x) (K (c, some (0, k))) (sendCell c k) := inv_at x K (c, some (0, k))
/-- and of a receive cell; -/
theorem inv_recv (c : Dev nD) (k : Fin 10) : records x K ⊢ cellInv ER (sortRd x) (K (c, some (1, k))) (recvCell c k) := inv_at x K (c, some (1, k))
/-- round 0 of a barrier cell, -/
theorem reached_bar (c : Dev nD) : records x K ⊢ reached ER (barCell c) 0 := reached_at x K (c, none)
/-- of a send cell -/
theorem reached_send (c : Dev nD) (k : Fin 10) : records x K ⊢ reached ER (sendCell c k) 0 := reached_at x K (c, some (0, k))
/-- and of a receive cell. -/
theorem reached_recv (c : Dev nD) (k : Fin 10) : records x K ⊢ reached ER (recvCell c k) 0 := reached_at x K (c, some (1, k))

/-- Device `c` owes `O`, whatever it has waited for. -/
def owesE (c : Dev nD) (O : CellTallies nD τ sig Unit) : sProp 𝕄 := iprop(∃ W, owes (c : Thread nD τ) O W)

/-- Verifying the rest `p` of device `c`'s body. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What a device pays at a peer's barrier cell is the part of its own buffer that the peer will write. -/
theorem barPay_peer (c : Dev nD) (k : Fin 10) :
    barPay (F := F) (peer c k) (back k) = iprop(∃ f : Buf (Elt F) (scLoc c), scLoc c ↦[region (peer c k) (back k)]{fullShare} f) := by
  unfold barPay; rw [peer_back]

/-- Signal `k` hands the peer the part of `c`'s exchange buffer that the peer will write. -/
theorem sig_step (c n : Dev nD) (k : Fin 10) (hn : n = peer c k) (j : ℕ) (hj : nth j = k) (a : ℕ) (ha : 1 = a)
    {α : Type} {p : PUnit → Prog (TpuEff nD τ sig (Elt F) Λ₀ .tc) α} (Q : α → sProp 𝕄) :
    iprop(records x K ∗ owesE c (oweB c (j + 1)) ∗ dutyTok ER (barCell (peer c k)) 0 (back k)
        ∗ (∃ f : Buf (Elt F) (scLoc c), scLoc c ↦[region (peer c k) (back k)]{fullShare} f))
      ⊢ iprop((owesE c (oweB c j) -∗ wpc c (p ⟨⟩) Q) -∗ wpc c (.op (.semSignal (n : Thread nD τ) barS a) p) Q) := by
  subst hn ha hj
  unfold owesE
  iintro ⟨#HR, ⟨%W, HO⟩, Ht, Hp⟩ Hk
  iapply (Rounds.wp_signal 𝒱₀ ER (sortRd x) (c : Thread nD τ) none (dst := (peer c (nth j) : Thread nD τ)) (κ := K (peer c (nth j), none))
      (d := back (nth j)) (by rw [duties_bar]; exact Finset.mem_univ _) (amount_bar x (peer c (nth j)) (back (nth j))) () (oweB c j) rfl)
    $$ [HO Ht Hp]
  · isplitr; · iapply (inv_bar x K); iexact HR
    isplitl [HO]; · iexact HO
    isplitl [Ht]; · iexact Ht
    isplitl [Hp]; · rw [payload_bar, barPay_peer]; iexact Hp
    iapply (reached_bar x K); iexact HR
  iintro HO
  iapply Hk
  iexists W; iexact HO

/-- The wait for ten units: every peer's part arrives, and the cell is closed. -/
theorem bar_step (c : Dev nD) (a : ℕ) (ha : 10 = a) {α : Type} {p : PUnit → Prog (TpuEff nD τ sig (Elt F) Λ₀ .tc) α} (Q : α → sProp 𝕄) :
    iprop(records x K ∗ levAts L lv ∗ owesE c (oweR c 10) ∗ cred (tallyAt (barCell c) () 10) ∗ atPos ER (barCell c) 0 ∅ 0)
      ⊢ iprop(((owesE c (oweR c 10) ∗ semVal (barCell c) 0 ∗ bigSep Finset.univ fun d => barPay (F := F) c d) -∗ wpc c (p ⟨⟩) Q)
          -∗ wpc c (.op (.semWait barS a) p) Q) := by
  subst ha
  unfold owesE
  iintro ⟨#HR, #Hlev, ⟨%W, HO⟩, Hc, Hat⟩ Hk
  iapply (Rounds.wp_wait_rest_token 𝒱₀ ER (sortRd x) (c : Thread nD τ) none (κ := K (c, none))
      (wpE_semWait_eq 𝒱₀ (c : Thread nD τ) none Set.univ) (Set.mem_univ _) () (O := oweR c 10) (W := W) (R := 0) (m := 0) (T := ∅)
      (by rw [expect_bar])) $$ [Hc HO Hat]
  · isplitr; · iapply (inv_bar x K); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar x c)) $$ Hpay
  imod (Rounds.cell_close ER (sortRd x) (Set.mem_univ (K (c, none))) (fun h => h) (R := 0 + 1) (duties_later x (barCell c))) $$ [Hat] with Hz
  · isplitr; · iapply (inv_bar x K); iexact HR
    iexact Hat
  iapply Hk
  isplitl [HO]; · iexists _; iexact HO
  isplitl [Hz]; · iexact Hz
  iexact Hp

/-- The wait for copy `k`'s reading end: the source's share comes back, and the cell is closed. -/
theorem wait_send (c : Dev nD) (k : Fin 10) (n : ℕ) (hw : (levAts L lv : sProp 𝕄) ⊢ MayWait (c : Thread nD τ) (.dma (sendQ k)) () (oweR c n))
    {s s' : Shape} {e e' : EltTy} (src : Memref sig .tc .vmem s' e') (dst : Memref sig .tc .vmem s e) (hcr : dst.view.dmaCredit = credit k)
    {hsrc : src.view.WordExact} {hdst : dst.view.WordExact} (q : DmaSem sig) (hq : q = sendQ k)
    {α : Type} {p : PUnit → Prog (TpuEff nD τ sig (Elt F) Λ₀ .tc) α} (Q : α → sProp 𝕄) :
    iprop(records x K ∗ levAts L lv ∗ owesE c (oweR c n) ∗ cred (tallyAt (sendCell c k) () (credit k)) ∗ atPos ER (sendCell c k) 0 ∅ 0)
      ⊢ iprop(((owesE c (oweR c n) ∗ semVal (sendCell c k) 0 ∗ sendPay x c k) -∗ wpc c (p ⟨⟩) Q)
          -∗ wpc c (.op (.waitDma2 q src dst hsrc hdst) p) Q) := by
  subst hq
  unfold owesE
  rw [← hcr]
  iintro ⟨#HR, #Hlev, ⟨%W, HO⟩, Hc, Hat⟩ Hk
  iapply (Rounds.wp_wait_rest_token 𝒱₀ ER (sortRd x) (c : Thread nD τ) none (κ := K (c, some (0, k)))
      (wpE_waitDma2_eq 𝒱₀ (c : Thread nD τ) none Set.univ) (Set.mem_univ _) () (O := oweR c n) (W := W) (R := 0) (m := 0) (T := ∅)
      (by rw [Nat.zero_add, expect_send, hcr])) $$ [Hc HO Hat]
  · isplitr; · iapply (inv_send x K); iexact HR
    isplitl [Hc]; · iexact Hc
    isplitl [HO]; · iexact HO
    isplitr; · iapply hw; iexact Hlev
    iexact Hat
  iintro ⟨HO, Hat, -, Hpay⟩
  ihave Hp := (Entails.of_eq (rest_send x c k)) $$ Hpay
  imod (Rounds.cell_close ER (sortRd x) (Set.mem_univ (K (c, some (0, k)))) (fun h => h) (R := 0 + 1) (duties_later x (sendCell c k))) $$ [Hat] with Hz
  · isplitr; · iapply (inv_send x K); iexact HR
    iexact Hat
  iapply Hk
  isplitl [HO]; · iexists _; iexact HO
  isplitl [Hz]; · iexact Hz
  iexact Hp

/-- The wait for the arrival of copy `k`: a peer's slots arrive, and the cell is closed. -/
theorem wait_recv (c : Dev nD) (k : Fin 10) (n : ℕ) (hw : (levAts L lv : sProp 𝕄) ⊢ MayWait (c : Thread nD τ) (.dma (recvQ k)) () (oweR c n))
    {s s' : Shape} {e e' : EltTy} (src : Memref sig .tc .vmem s' e') (dst : Memref sig .tc .vmem s e) (hcr : dst.view.dmaCredit = credit k)
    {hsrc : src.view.WordExact} {hdst : dst.view.WordExact} (q : DmaSem sig) (hq : q = recvQ k)
    {α : Type} {p : PUnit → Prog (TpuEff nD τ sig (Elt F) Λ₀ .tc) α} (Q : α → sProp 𝕄) :
    iprop(records x K ∗ levAts L lv ∗ owesE c (oweR c n) ∗ cred (tallyAt (recvCell c k) () (credit k)) ∗ atPos ER (recvCell c k) 0 ∅ 0)
      ⊢ iprop(((owesE c (oweR c n) ∗ semVal (recvCell c k) 0 ∗ recvPay x c k) -∗ wpc c (p ⟨⟩) Q)
          -∗ wpc c (.op (.waitDma2 q src dst hsrc hdst) p) Q) := by
  subst hq
  unfold owesE
  rw [← hcr]
  iintro ⟨#HR, #Hlev, ⟨%W, HO⟩, Hc, Hat⟩ Hk
  iapply (Rounds.wp_wait_rest_token 𝒱₀ ER (sortRd x) (c : Thread nD τ) none (κ := K (c, some (1, k)))
      (wpE_waitDma2_eq 𝒱₀ (c : Thread nD τ) none Set.univ) (Set.mem_univ _) () (O := oweR c n) (W := W) (R := 0) (m := 0) (T := ∅)
      (by rw [Nat.zero_add, expect_recv, hcr])) $$ [Hc HO Hat]
  · isplitr; · iapply (inv_recv x K); iexact HR
    isplitl [Hc]; · iexact Hc
    isplitl [HO]; · iexact HO
    isplitr; · iapply hw; iexact Hlev
    iexact Hat
  iintro ⟨HO, Hat, -, Hpay⟩
  ihave Hp := (Entails.of_eq (rest_recv x c k)) $$ Hpay
  imod (Rounds.cell_close ER (sortRd x) (Set.mem_univ (K (c, some (1, k)))) (fun h => h) (R := 0 + 1) (duties_later x (recvCell c k))) $$ [Hat] with Hz
  · isplitr; · iapply (inv_recv x K); iexact HR
    iexact Hat
  iapply Hk
  isplitl [HO]; · iexists _; iexact HO
  isplitl [Hz]; · iexact Hz
  iexact Hp

/-- A copy within the group moves one slot; -/
theorem credit_slot (k : Fin 10) (hk : k.val < 7) (c : Dev nD) : (slotM c).view.dmaCredit = credit k := by
  unfold credit; rw [if_pos hk]
/-- a copy between groups moves a group's slots. -/
theorem credit_group (k : Fin 10) (hk : ¬ k.val < 7) (c : Dev nD) : (groupM c).view.dmaCredit = credit k := by
  unfold credit; rw [if_neg hk]

/-- Copy `k` within the group: the slot goes to the peer. -/
theorem send_slot (c n : Dev nD) (k : Fin 10) (hk : k.val < 7) (hn : n = peer c k) (j : ℕ) (hj : nth j = k)
    (qS qR : DmaSem sig) (hS : qS = sendQ k) (hR : qR = recvQ k)
    {hsc : (slotM c : Memref sig (Dev.tc n : Thread nD τ).2.kind .vmem S128x64 .bf16).view.ref.isScScratch = false}
    {hsrc : (slotM c).view.WordExact} {hdst : (slotM c).view.WordExact}
    {hsem : DmaTarget.Typed .vmem (.dma qR) (.remote (Dev.tc n : Thread nD τ) (slotM c) (.dma qS) hsc)}
    {α : Type} {p : PUnit → Prog (TpuEff nD τ sig (Elt F) Λ₀ .tc) α} (Q : α → sProp 𝕄) :
    iprop(records x K ∗ owesE c (oweR c (j + 1)) ∗ sendPay x c k ∗ barPay c k ∗ dutyTok ER (sendCell c k) 0 0 ∗ dutyTok ER (recvCell (peer c k) k) 0 0)
      ⊢ iprop(((cred (tallyAt (sendCell c k) () (credit k)) ∗ owesE c (oweR c j)) -∗ wpc c (p ⟨⟩) Q)
          -∗ wpc c (.op (.enqueueDma (slotM c) (.remote (Dev.tc n : Thread nD τ) (slotM c) (.dma qS) hsc) (.dma qR) hsrc hdst hsem) p) Q) := by
  subst hn hS hR hj
  unfold owesE sendPay barPay
  have hreg : region c (nth j) = (slotM c).view.set := by rw [slotM_set]; exact if_pos hk
  rw [hreg]
  iintro ⟨#HR, ⟨%W, HO⟩, Hs, ⟨%fd, Hd⟩, HtS, HtR⟩ Hp
  iapply (Rounds.wp_send_pointsTo 𝒱₀ ER (sortRd x) (c : Thread nD τ) none (κ₁ := K (c, some (0, nth j))) (κ₂ := K (peer c (nth j), some (1, nth j)))
      (src := slotM c) (c' := (peer c (nth j) : Thread nD τ)) (dst := slotM c) (sS := .dma (sendQ (nth j))) (sem := .dma (recvQ (nth j)))
      (r₁ := 0) (r₂ := 0) (d₁ := 0) (d₂ := 0) (fd := fd) (fs := carried x (nth j))
      (by rw [duties_send]; exact Finset.mem_singleton_self _) (by rw [duties_recv]; exact Finset.mem_singleton_self _)
      () () (credit (nth j)) (credit_slot (nth j) hk c) (amount_send x c (nth j) 0) (amount_recv x (peer c (nth j)) (nth j) 0) (oweR c j) rfl (W := W)
      (by rw [payload_send]; unfold sendPay; rw [hreg])
      (by
        rw [payload_recv]; unfold recvPay
        rw [peer_back, hreg]
        exact Entails.of_eq (pointsTo_congr (write_read_on (slotM c).view fd (carried x (nth j))))))
    $$ [HO Hs Hd HtS HtR]
  · isplitr; · iapply (inv_send x K); iexact HR
    isplitr; · iapply (inv_recv x K); iexact HR
    isplitl [Hs]; · iexact Hs
    isplitl [Hd]; · iexact Hd
    isplitl [HO]; · iexact HO
    isplitl [HtS]; · iexact HtS
    isplitr; · iapply (reached_send x K); iexact HR
    isplitl [HtR]; · iexact HtR
    iapply (reached_recv x K); iexact HR
  iintro ⟨Hc, HO⟩
  iapply Hp
  isplitl [Hc]; · iexact Hc
  iexists W; iexact HO

/-- Copy `k` between groups: the group's slots go to the peer. -/
theorem send_group (c n : Dev nD) (k : Fin 10) (hk : ¬ k.val < 7) (hn : n = peer c k) (j : ℕ) (hj : nth j = k)
    (qS qR : DmaSem sig) (hS : qS = sendQ k) (hR : qR = recvQ k)
    {hsc : (groupM c : Memref sig (Dev.tc n : Thread nD τ).2.kind .vmem S8x128x64 .bf16).view.ref.isScScratch = false}
    {hsrc : (groupM c).view.WordExact} {hdst : (groupM c).view.WordExact}
    {hsem : DmaTarget.Typed .vmem (.dma qR) (.remote (Dev.tc n : Thread nD τ) (groupM c) (.dma qS) hsc)}
    {α : Type} {p : PUnit → Prog (TpuEff nD τ sig (Elt F) Λ₀ .tc) α} (Q : α → sProp 𝕄) :
    iprop(records x K ∗ owesE c (oweR c (j + 1)) ∗ sendPay x c k ∗ barPay c k ∗ dutyTok ER (sendCell c k) 0 0 ∗ dutyTok ER (recvCell (peer c k) k) 0 0)
      ⊢ iprop(((cred (tallyAt (sendCell c k) () (credit k)) ∗ owesE c (oweR c j)) -∗ wpc c (p ⟨⟩) Q)
          -∗ wpc c (.op (.enqueueDma (groupM c) (.remote (Dev.tc n : Thread nD τ) (groupM c) (.dma qS) hsc) (.dma qR) hsrc hdst hsem) p) Q) := by
  subst hn hS hR hj
  unfold owesE sendPay barPay
  have hreg : region c (nth j) = (groupM c).view.set := by rw [groupM_set]; exact if_neg hk
  rw [hreg]
  iintro ⟨#HR, ⟨%W, HO⟩, Hs, ⟨%fd, Hd⟩, HtS, HtR⟩ Hp
  iapply (Rounds.wp_send_pointsTo 𝒱₀ ER (sortRd x) (c : Thread nD τ) none (κ₁ := K (c, some (0, nth j))) (κ₂ := K (peer c (nth j), some (1, nth j)))
      (src := groupM c) (c' := (peer c (nth j) : Thread nD τ)) (dst := groupM c) (sS := .dma (sendQ (nth j))) (sem := .dma (recvQ (nth j)))
      (r₁ := 0) (r₂ := 0) (d₁ := 0) (d₂ := 0) (fd := fd) (fs := carried x (nth j))
      (by rw [duties_send]; exact Finset.mem_singleton_self _) (by rw [duties_recv]; exact Finset.mem_singleton_self _)
      () () (credit (nth j)) (credit_group (nth j) hk c) (amount_send x c (nth j) 0) (amount_recv x (peer c (nth j)) (nth j) 0) (oweR c j) rfl (W := W)
      (by rw [payload_send]; unfold sendPay; rw [hreg])
      (by
        rw [payload_recv]; unfold recvPay
        rw [peer_back, hreg]
        exact Entails.of_eq (pointsTo_congr (write_read_on (groupM c).view fd (carried x (nth j))))))
    $$ [HO Hs Hd HtS HtR]
  · isplitr; · iapply (inv_send x K); iexact HR
    isplitr; · iapply (inv_recv x K); iexact HR
    isplitl [Hs]; · iexact Hs
    isplitl [Hd]; · iexact Hd
    isplitl [HO]; · iexact HO
    isplitl [HtS]; · iexact HtS
    isplitr; · iapply (reached_send x K); iexact HR
    isplitl [HtR]; · iexact HtR
    iapply (reached_recv x K); iexact HR
  iintro ⟨Hc, HO⟩
  iapply Hp
  isplitl [Hc]; · iexact Hc
  iexists W; iexact HO

end Cert.DevSort
-- ==== Proof.Regions.lean ====
/-
# What the body's loads and stores move, and how the exchange buffer is divided

First the values: a device's store of its sorted block fills its slot with `sorted1`, a load of the group's slots reads
the group's blocks, and so on. Then the division of the buffer: what a device hands to its ten peers together with its
own slot is the whole buffer, and so is what it holds once all copies have arrived.
-/
module

public import proofs.«01_k».proof.Proof.Steps

@[expose] public section

noncomputable section

namespace Cert.DevSort

open Cert.KernelIdeal Cert.KernelIdeal.Gen
open Idealize.ShloMosaic
open Idealize.ShloMosaic.TcCoe
open Idealize.ShloMosaic.ValueIdx (ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (x : Dev nD → FVec F S128x64 .bf16)

/-! ## Values -/

/-- The rectangle of device `c`'s slot, of its group's slots, and of the whole buffer, as the body's loads and stores name them. -/
abbrev slotR (c : Dev nD) : Rect S32x128x64 := Rect.unit (s := S32x128x64) (k0_off1 c) S1x128x64.size (k0_off1_inb c)
/-- The rectangle of its group's slots. -/
abbrev groupR (c : Dev nD) : Rect S32x128x64 := Rect.unit (s := S32x128x64) (k0_off3 c) S8x128x64.size (k0_off3_inb c)
/-- The rectangle of the whole exchange buffer. -/
abbrev allR : Rect S32x128x64 := Rect.unit (s := S32x128x64) ![0, 0, 0] S32x128x64.size inb_S32x128x64_S32x128x64_0_0_0

/-- The first is the device's slot, -/
theorem slotR_set (c : Dev nD) : (scM.access (slotR c)).set = slotSet c := by
  show ((View.whole cc0_scratch0).slice (slotR c)).set = _
  rw [View.set_slice_whole]; ext i; exact mem_slotRect _ _ c (k0_off1_eq c) i
/-- the second its group's slots. -/
theorem groupR_set (c : Dev nD) : (scM.access (groupR c)).set = groupSet c := by
  show ((View.whole cc0_scratch0).slice (groupR c)).set = _
  rw [View.set_slice_whole]; ext i; exact mem_groupRect _ _ c (off3_eq c) i

/-- Element `j` of a slot's rectangle. -/
theorem slotR_emb (c : Dev nD) (j : S1x128x64.Idx) : (scM.access (slotR c)).emb j = ix3 (c : Fin 32) (j 1) (j 2) := by
  have h0 : (j 0).val < 1 := (j 0).isLt
  funext a
  apply Fin.ext
  have h : ((scM.access (slotR c)).emb j a).val = k0_off1 c a + (j a).val := ValueKit.view_emb_slice_whole_unit_val _ _ _ _ _ _
  rw [h, k0_off1_eq c]
  fin_cases a
  · show c.val + (j 0).val = c.val; omega
  · show 0 + (j 1).val = (j 1).val; omega
  · show 0 + (j 2).val = (j 2).val; omega

set_option backward.proofsInPublic true in
/-- Element `j` of a group's rectangle. -/
def inGroup (c : Dev nD) (j : S8x128x64.Idx) : S32x128x64.Idx :=
  ix3 (⟨c.val / 8 * 8 + (j 0).val, by have h := c.isLt; have h' : (j 0).val < 8 := (j 0).isLt; have : nD = 32 := rfl; omega⟩ : Fin 32) (j 1) (j 2)

/-- Where an element of the group's rectangle is in the buffer. -/
theorem groupR_emb (c : Dev nD) (j : S8x128x64.Idx) : (scM.access (groupR c)).emb j = inGroup c j := by
  funext a
  apply Fin.ext
  have h : ((scM.access (groupR c)).emb j a).val = k0_off3 c a + (j a).val := ValueKit.view_emb_slice_whole_unit_val _ _ _ _ _ _
  rw [h, off3_eq c]
  fin_cases a
  · rfl
  · show 0 + (j 1).val = (j 1).val; omega
  · show 0 + (j 2).val = (j 2).val; omega

/-- The store of the sorted block fills the device's slot with `sorted1`. -/
theorem store_slot (c : Dev nD) (f : S32x128x64.Idx → F .bf16) :
    ∀ i ∈ slotSet c, (scM.access (slotR c)).write (Elt F) f (sortBlock (devBit c) (x c)) Finset.univ i = sorted1 x i := by
  intro i hi
  rw [← slotR_set] at hi
  obtain ⟨j, -, rfl⟩ := Finset.mem_map.mp hi
  rw [View.write_emb_of_mem _ _ (Finset.mem_univ j), slotR_emb]
  have h0 : j = ix3 (0 : Fin 1) (j 1) (j 2) := by
    funext a; fin_cases a
    · apply Fin.ext; have : (j 0).val < 1 := (j 0).isLt; show (j 0).val = 0; omega
    · rfl
    · rfl
  exact congrArg (sortBlock (devBit c) (x c)) h0

/-- A load of the group's slots. -/
theorem load_group (c : Dev nD) (f : S32x128x64.Idx → F .bf16) : (scM.view.readAt (Elt F) (groupR c).toLoadRect f : S8x128x64.Idx → F .bf16) = groupOf f c := by
  funext j
  exact congrArg f (groupR_emb c j)

/-- Devices of one group have the same group's contents, -/
theorem groupOf_congr (f : S32x128x64.Idx → F .bf16) (c d : Dev nD) (h : c.val / 8 = d.val / 8) : groupOf f c = groupOf f d := by
  unfold groupOf; simp only [h]
/-- and the same direction of the merge. -/
theorem groupBit_congr (c d : Dev nD) (h : c.val / 8 = d.val / 8) : groupBit c = groupBit d := by unfold groupBit; rw [h]

/-- The store of the merged group fills the group's slots with `sorted2`. -/
theorem store_group (c : Dev nD) (f : S32x128x64.Idx → F .bf16) :
    ∀ i ∈ groupSet c, (scM.access (groupR c)).write (Elt F) f (mergeGroup (groupBit c) (groupOf (sorted1 x) c)) Finset.univ i = sorted2 x i := by
  intro i hi
  rw [← groupR_set] at hi
  obtain ⟨j, -, rfl⟩ := Finset.mem_map.mp hi
  rw [View.write_emb_of_mem _ _ (Finset.mem_univ j), groupR_emb]
  have h8 : (j 0).val < 8 := (j 0).isLt
  have hg : (slotDev (inGroup c j)).val / 8 = c.val / 8 := by
    show (c.val / 8 * 8 + (j 0).val) / 8 = c.val / 8; omega
  have hj : ix3 (⟨(inGroup c j 0).val % 8, Nat.mod_lt _ (by decide)⟩ : Fin 8) (inGroup c j 1) (inGroup c j 2) = j := by
    funext a; fin_cases a
    · apply Fin.ext; show (c.val / 8 * 8 + (j 0).val) % 8 = (j 0).val; omega
    · rfl
    · rfl
  unfold sorted2
  rw [groupBit_congr _ _ hg, groupOf_congr _ _ _ hg]
  exact congrArg (mergeGroup (groupBit c) (groupOf (sorted1 x) c)) hj.symm

/-- The offsets of a whole buffer are zero, for three axes -/
theorem zeros3 : (![0, 0, 0] : Fin 3 → Nat) = fun _ => 0 := funext fun a => by fin_cases a <;> rfl
/-- and for two. -/
theorem zeros2 : (![0, 0] : Fin 2 → Nat) = fun _ => 0 := funext fun a => by fin_cases a <;> rfl

/-- Loading the whole buffer gives its contents. -/
theorem load_all (f : S32x128x64.Idx → F .bf16) : scM.view.readAt (Elt F) allR.toLoadRect f = f :=
  Memref.readAt_unit_zero (Elt F) cc0_scratch0 zeros3 _ f
/-- Storing over the whole buffer leaves what is stored. -/
theorem store_all (f w : S32x128x64.Idx → F .bf16) : (scM.access allR).write (Elt F) f w Finset.univ = w :=
  Memref.write_access_unit_zero_univ (Elt F) cc0_scratch0 zeros3 _ f w

/-- The last load: the device's slot of the last merge. -/
theorem load_slot (c : Dev nD) (f : S32x128x64.Idx → F .bf16) :
    (scM.view.readAt (Elt F) (slotR c).toLoadRect f : S1x128x64.Idx → F .bf16) = fun j => f (ix3 (c : Fin 32) (j 1) (j 2)) := by
  funext j
  exact congrArg f (slotR_emb c j)

/-! ## Dividing the buffer -/

/-- Whether slot `e` belongs to what device `c`'s copy `k` writes. -/
def touches (c : Dev nD) (k : Fin 10) (e : Dev nD) : Bool := if k.val < 7 then e.val == c.val else e.val / 8 == c.val / 8

/-- An element is in what copy `k` writes when its slot is. -/
theorem mem_region (c : Dev nD) (k : Fin 10) (i : S32x128x64.Idx) : i ∈ region c k ↔ touches c k (slotDev i) = true := by
  unfold region touches
  split
  · rw [mem_slotSet]; exact (beq_iff_eq).symm
  · rw [mem_groupSet]; exact (beq_iff_eq).symm

/-- The parts of its buffer that a device gives away, by peer. -/
abbrev given (c : Dev nD) (k : Fin 10) : Finset S32x128x64.Idx := region (peer c k) (back k)
/-- The parts of its buffer that arrive, by copy. -/
abbrev arrived (c : Dev nD) (k : Fin 10) : Finset S32x128x64.Idx := region (peer c (back k)) k

/-- Every slot but a device's own is given to some peer; -/
theorem given_cover : ∀ c e : Dev nD, e = c ∨ ∃ k, touches (peer c k) (back k) e = true := by decide +kernel
/-- its own is given to none. -/
theorem given_own : ∀ (c : Dev nD) (k : Fin 10), touches (peer c k) (back k) c = false := by decide +kernel

/-- The number of the peer that slot `e` is given to, by the position of `e` in its group or by its group. -/
def givenTo (c e : Dev nD) : ℕ := if e.val / 8 = c.val / 8 then (e.val % 8 + 7 - c.val % 8) % 8 else 6 + (e.val / 8 + 4 - c.val / 8) % 4
/-- The peer that a slot is given to has that number, -/
theorem given_num : ∀ (c e : Dev nD) (k : Fin 10), touches (peer c k) (back k) e = true → k.val = givenTo c e := by decide +kernel
/-- so there is one such peer. -/
theorem given_apart (c e : Dev nD) (k k' : Fin 10) (h : touches (peer c k) (back k) e = true) (h' : touches (peer c k') (back k') e = true) : k = k' :=
  Fin.ext ((given_num c e k h).trans (given_num c e k' h').symm)

/-- An element is in the slot of its device. -/
theorem slotDev_eq (c : Dev nD) (i : S32x128x64.Idx) : i ∈ slotSet c ↔ slotDev i = c := by
  rw [mem_slotSet]; exact ⟨fun h => Fin.ext h, fun h => congrArg Fin.val h⟩

/-- The buffer is the device's own slot and what it gives away. -/
theorem all_eq (c : Dev nD) : (Finset.univ : Finset S32x128x64.Idx) = slotSet c ∪ Finset.univ.biUnion (given c) := by
  ext i
  refine ⟨fun _ => ?_, fun _ => Finset.mem_univ _⟩
  rw [Finset.mem_union]
  rcases given_cover c (slotDev i) with h | ⟨k, h⟩
  · exact .inl ((slotDev_eq c i).mpr h)
  · exact .inr (Finset.mem_biUnion.mpr ⟨k, Finset.mem_univ _, (mem_region _ _ i).mpr h⟩)

/-- Its own slot is apart from what it gives away; -/
theorem own_disjoint (c : Dev nD) : Disjoint (slotSet c) (Finset.univ.biUnion (given c)) := by
  rw [Finset.disjoint_left]
  intro i hi hj
  obtain ⟨k, -, hk⟩ := Finset.mem_biUnion.mp hj
  have h := (mem_region _ _ i).mp hk
  rw [(slotDev_eq c i).mp hi, given_own] at h
  exact Bool.false_ne_true h

/-- and what it gives to different peers is apart. -/
theorem given_disjoint (c : Dev nD) : ∀ k ∈ (Finset.univ : Finset (Fin 10)), ∀ k' ∈ (Finset.univ : Finset (Fin 10)), k ≠ k' → Disjoint (given c k) (given c k') := by
  intro k _ k' _ hne
  rw [Finset.disjoint_left]
  intro i hi hj
  exact hne (given_apart c (slotDev i) k k' ((mem_region _ _ i).mp hi) ((mem_region _ _ i).mp hj))

/-- A union of parts is held part by part. -/
theorem held_parts (c : Dev nD) (S : Finset (Fin 10)) (P : Fin 10 → Finset S32x128x64.Idx) (h : ∀ k ∈ S, ∀ k' ∈ S, k ≠ k' → Disjoint (P k) (P k'))
    (f : Buf (Elt F) (scLoc c)) :
    (scLoc c ↦[S.biUnion P]{fullShare} f : sProp 𝕄) = bigSep S fun k => scLoc c ↦[P k]{fullShare} f := by
  convert pointsTo_biUnion (ℓ := scLoc c) (q := fullShare) (f := f) S P h

/-- A part of the buffer, with any contents. -/
theorem give_part (c : Dev nD) (S : Finset S32x128x64.Idx) (f : Buf (Elt F) (scLoc c)) :
    (scLoc c ↦[S]{fullShare} f : sProp 𝕄) ⊢ iprop(∃ f : Buf (Elt F) (scLoc c), scLoc c ↦[S]{fullShare} f) := by
  iintro H; iexists f; iexact H

/-- At the start a device divides its buffer into its own slot and the parts it gives its peers. -/
theorem split_all (c : Dev nD) (f : Buf (Elt F) (scLoc c)) :
    (scLoc c ↦{fullShare} f : sProp 𝕄) ⊢ iprop((scLoc c ↦[slotSet c]{fullShare} f)
      ∗ bigSep Finset.univ fun k : Fin 10 => iprop(∃ f : Buf (Elt F) (scLoc c), scLoc c ↦[given c k]{fullShare} f)) := by
  show (scLoc c ↦[(Finset.univ : Finset S32x128x64.Idx)]{fullShare} f : sProp 𝕄) ⊢ _
  rw [all_eq c]
  refine (pointsTo_union (own_disjoint c)).1.trans (sep_mono_right ?_)
  refine (Entails.of_eq (held_parts c Finset.univ (given c) (given_disjoint c) f)).trans ?_
  exact bigSep_mono fun k _ => give_part c (given c k) f

/-- The slots of a device's group are its own and those that arrive within the group. -/
theorem arrived_low : ∀ c e : Dev nD, e.val / 8 = c.val / 8 ↔ (e = c ∨ ∃ k : Fin 10, k ∈ lows ∧ touches (peer c (back k)) k e = true) := by decide +kernel
/-- No copy within the group arrives in its own slot. -/
theorem arrived_own : ∀ (c : Dev nD) (k : Fin 10), k.val < 7 → touches (peer c (back k)) k c = false := by decide +kernel
/-- The copy that a slot arrives by has that number, -/
theorem arrived_num : ∀ (c e : Dev nD) (k : Fin 10), touches (peer c (back k)) k e = true → k.val = givenTo e c := by decide +kernel
/-- so there is one such copy. -/
theorem arrived_apart (c e : Dev nD) (k k' : Fin 10) (h : touches (peer c (back k)) k e = true) (h' : touches (peer c (back k')) k' e = true) : k = k' :=
  Fin.ext ((arrived_num c e k h).trans (arrived_num c e k' h').symm)
/-- Every other slot arrives by a copy between groups, -/
theorem arrived_high : ∀ c e : Dev nD, e.val / 8 = c.val / 8 ∨ ∃ k : Fin 10, k ∈ highs ∧ touches (peer c (back k)) k e = true := by decide +kernel
/-- and these bring other groups' slots only. -/
theorem arrived_other : ∀ (c e : Dev nD) (k : Fin 10), k ∈ highs → touches (peer c (back k)) k e = true → e.val / 8 ≠ c.val / 8 := by decide +kernel

/-- Different copies arrive in parts that are apart. -/
theorem arrived_disjoint (c : Dev nD) (S : Finset (Fin 10)) : ∀ k ∈ S, ∀ k' ∈ S, k ≠ k' → Disjoint (arrived c k) (arrived c k') := by
  intro k _ k' _ hne
  rw [Finset.disjoint_left]
  intro i hi hj
  exact hne (arrived_apart c (slotDev i) k k' ((mem_region _ _ i).mp hi) ((mem_region _ _ i).mp hj))

/-- An element is in a group's slots when its slot's device is in the group. -/
theorem mem_groupSet' (c : Dev nD) (i : S32x128x64.Idx) : i ∈ groupSet c ↔ (slotDev i).val / 8 = c.val / 8 := mem_groupSet c i

/-- The group's slots are the device's own and what arrives within the group. -/
theorem group_eq (c : Dev nD) : groupSet c = slotSet c ∪ lows.biUnion (arrived c) := by
  ext i
  rw [mem_groupSet', arrived_low c (slotDev i), Finset.mem_union, slotDev_eq, Finset.mem_biUnion]
  refine or_congr_right (exists_congr fun k => and_congr_right fun _ => (mem_region _ _ i).symm)

/-- These are apart. -/
theorem low_disjoint (c : Dev nD) : Disjoint (slotSet c) (lows.biUnion (arrived c)) := by
  rw [Finset.disjoint_left]
  intro i hi hj
  obtain ⟨k, hk7, hk⟩ := Finset.mem_biUnion.mp hj
  have h := (mem_region _ _ i).mp hk
  rw [(slotDev_eq c i).mp hi, arrived_own c k (Finset.mem_filter.mp hk7).2] at h
  exact Bool.false_ne_true h

/-- The buffer is the group's slots and what arrives from other groups. -/
theorem all_eq' (c : Dev nD) : (Finset.univ : Finset S32x128x64.Idx) = groupSet c ∪ highs.biUnion (arrived c) := by
  ext i
  refine ⟨fun _ => ?_, fun _ => Finset.mem_univ _⟩
  rw [Finset.mem_union]
  rcases arrived_high c (slotDev i) with h | ⟨k, hk, h⟩
  · exact .inl ((mem_groupSet' c i).mpr h)
  · exact .inr (Finset.mem_biUnion.mpr ⟨k, hk, (mem_region _ _ i).mpr h⟩)

/-- These are apart too. -/
theorem high_disjoint (c : Dev nD) : Disjoint (groupSet c) (highs.biUnion (arrived c)) := by
  rw [Finset.disjoint_left]
  intro i hi hj
  obtain ⟨k, hk7, hk⟩ := Finset.mem_biUnion.mp hj
  exact arrived_other c (slotDev i) k hk7 ((mem_region _ _ i).mp hk) ((mem_groupSet' c i).mp hi)

/-- What holds of the seven copies within a group, one by one; -/
theorem bigSep_lows (Φ : Fin 10 → sProp 𝕄) : bigSep lows Φ = iprop(Φ 0 ∗ Φ 1 ∗ Φ 2 ∗ Φ 3 ∗ Φ 4 ∗ Φ 5 ∗ Φ 6) :=
  bigSep_eq_bigSepL_of_eq [0, 1, 2, 3, 4, 5, 6] (by decide) (by decide) Φ
/-- of the three between groups; -/
theorem bigSep_highs (Φ : Fin 10 → sProp 𝕄) : bigSep highs Φ = iprop(Φ 7 ∗ Φ 8 ∗ Φ 9) :=
  bigSep_eq_bigSepL_of_eq [7, 8, 9] (by decide) (by decide) Φ
/-- and of all ten. -/
theorem bigSep_ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_eq_bigSepL_of_eq [0, 1, 2, 3, 4, 5, 6, 7, 8, 9] (by decide) (by decide) Φ

/-- The slot, dealt out to the seven copies within the group; -/
theorem deal_slot (c : Dev nD) :
    (scLoc c ↦[slotSet c]{fullShare} sorted1 x : sProp 𝕄)
      = iprop(sendPay x c 0 ∗ sendPay x c 1 ∗ sendPay x c 2 ∗ sendPay x c 3 ∗ sendPay x c 4 ∗ sendPay x c 5 ∗ sendPay x c 6) := by
  rw [Transfers.pointsTo_deal lows ⟨0, by decide⟩, ← bigSep_lows (fun k => sendPay x c k)]
  refine bigSep_congr fun k hk => ?_
  have h7 : k.val < 7 := (Finset.mem_filter.mp hk).2
  unfold sendPay region readShare carried
  simp only [if_pos h7]
/-- the group's slots, dealt out to the three copies between groups. -/
theorem deal_group (c : Dev nD) :
    (scLoc c ↦[groupSet c]{fullShare} sorted2 x : sProp 𝕄) = iprop(sendPay x c 7 ∗ sendPay x c 8 ∗ sendPay x c 9) := by
  rw [Transfers.pointsTo_deal highs ⟨7, by decide⟩, ← bigSep_highs (fun k => sendPay x c k)]
  refine bigSep_congr fun k hk => ?_
  have h7 : ¬ k.val < 7 := not_lt.mpr (Finset.mem_filter.mp hk).2
  unfold sendPay region readShare carried
  simp only [if_neg h7]

/-- The own slot and the seven slots that arrived are the group's slots. -/
theorem join_group (c : Dev nD) :
    iprop((scLoc c ↦[slotSet c]{fullShare} sorted1 x)
        ∗ recvPay x c 0 ∗ recvPay x c 1 ∗ recvPay x c 2 ∗ recvPay x c 3 ∗ recvPay x c 4 ∗ recvPay x c 5 ∗ recvPay x c 6)
      ⊢ (scLoc c ↦[groupSet c]{fullShare} sorted1 x : sProp 𝕄) := by
  rw [group_eq c, ← bigSep_lows (fun k => recvPay x c k)]
  refine Entails.trans (sep_mono_right (Entails.of_eq ?_)) (pointsTo_union (low_disjoint c)).2
  refine Eq.trans ?_ (held_parts c lows (arrived c) (arrived_disjoint c lows) (sorted1 x)).symm
  refine bigSep_congr fun k hk => ?_
  have h7 : k.val < 7 := (Finset.mem_filter.mp hk).2
  unfold recvPay carried
  simp only [if_pos h7]
/-- The group's slots and those of the other groups that arrived are the whole buffer. -/
theorem join_all (c : Dev nD) :
    iprop((scLoc c ↦[groupSet c]{fullShare} sorted2 x) ∗ recvPay x c 7 ∗ recvPay x c 8 ∗ recvPay x c 9)
      ⊢ (scLoc c ↦{fullShare} sorted2 x : sProp 𝕄) := by
  show _ ⊢ (scLoc c ↦[(Finset.univ : Finset S32x128x64.Idx)]{fullShare} sorted2 x : sProp 𝕄)
  rw [all_eq' c, ← bigSep_highs (fun k => recvPay x c k)]
  refine Entails.trans (sep_mono_right (Entails.of_eq ?_)) (pointsTo_union (high_disjoint c)).2
  refine Eq.trans ?_ (held_parts c highs (arrived c) (arrived_disjoint c highs) (sorted2 x)).symm
  refine bigSep_congr fun k hk => ?_
  have h7 : ¬ k.val < 7 := not_lt.mpr (Finset.mem_filter.mp hk).2
  unfold recvPay carried
  simp only [if_neg h7]

end Cert.DevSort
-- ==== Proof.Parts.lean ====
/-
# The body's parts

The printed body is cut into parts. Here is one statement for each part that has an effect on another device or on
memory: what it takes, and what it leaves. Words that later parts pass on but never use are left open.
-/
module

public import proofs.«01_k».proof.Proof.Regions

@[expose] public section

noncomputable section

namespace Cert.DevSort

open Cert.KernelIdeal Cert.KernelIdeal.Gen
open Idealize.ShloMosaic
open Idealize.ShloMosaic.TcCoe
open Idealize.ShloMosaic.ValueIdx (ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → FVec F S128x64 .bf16) (K : Dev nD × CellIx → ℕ)

/-- The staging buffers of the argument and of the result. -/
abbrev xM : Memref sig .tc .vmem S128x64 .bf16 := Memref.whole cc0_stg0_0
/-- The staging buffer of the result. -/
abbrev oM : Memref sig .tc .vmem S128x64 .bf16 := Memref.whole cc0_stg1_0
/-- The staging buffers and the exchange buffer are whole arrays. -/
abbrev hX : (xM).IsWhole := Memref.isWhole_whole _
abbrev hO : (oM).IsWhole := Memref.isWhole_whole _
abbrev hC : (scM).IsWhole := Memref.isWhole_whole _

/-- Device `c`'s number, and its group's number, as the words that the body computes. -/
def word2 (c : Dev nD) : BitVec 32 := Scalar.remsi (Scalar.divsi (Dev.word c) 1#32) 32#32
/-- The group's number. -/
def word19 (c : Dev nD) : BitVec 32 :=
  let v2 := word2 c
  let v3 : BitVec 32 := Scalar.divsi v2 8#32
  let v8 : BitVec 32 := Scalar.subi (Scalar.extui (Scalar.cmpi .sgt v2 0#32)) (Scalar.extui (Scalar.cmpi .slt v2 0#32))
  let v13 : BitVec 32 := Scalar.subi (Scalar.extui (Scalar.cmpi .sgt 8#32 0#32)) (Scalar.extui (Scalar.cmpi .slt 8#32 0#32))
  Scalar.select (Scalar.andi (Scalar.cmpi .ne v8 v13) (Scalar.cmpi .ne (Scalar.remsi v2 8#32) 0#32)) (Scalar.subi v3 1#32) v3

/-- The bit that directs a device's sort; -/
theorem bit77 (c : Dev nD) : Scalar.cmpi .eq (Scalar.andi (word2 c) 1#32) 1#32 = devBit c := by revert c; decide +kernel
/-- and the one that directs a group's merge. -/
theorem bit857 (c : Dev nD) : Scalar.cmpi .eq (Scalar.andi (word19 c) 1#32) 1#32 = groupBit c := by revert c; decide +kernel

/-- What signal `k` takes: the right to pay peer `k`, and the part of the buffer it hands over. -/
abbrev sigIn (c : Dev nD) (k : Fin 10) : sProp 𝕄 :=
  iprop(dutyTok ER (barCell (peer c k)) 0 (back k) ∗ ∃ f : Buf (Elt F) (scLoc c), scLoc c ↦[given c k]{fullShare} f)
/-- What copy `k` takes besides its source: the peer's part of the buffer and the rights to pay both ends. -/
abbrev sendIn (c : Dev nD) (k : Fin 10) : sProp 𝕄 :=
  iprop(barPay c k ∗ dutyTok ER (sendCell c k) 0 0 ∗ dutyTok ER (recvCell (peer c k) k) 0 0)
/-- Copy `k` under way: its source's share is held back until the wait. -/
abbrev sent (c : Dev nD) (k : Fin 10) : sProp 𝕄 := cred (tallyAt (sendCell c k) () (credit k))
/-- What the waits for copy `k` take. -/
abbrev posS (c : Dev nD) (k : Fin 10) : sProp 𝕄 := atPos ER (sendCell c k) 0 ∅ 0
/-- The same of its receive cell: the credit for its wait and the place in its round. -/
abbrev posR (c : Dev nD) (k : Fin 10) : sProp 𝕄 := iprop(cred (tallyAt (recvCell c k) () (credit k)) ∗ atPos ER (recvCell c k) 0 ∅ 0)
/-- The two cells of copy `k`, closed. -/
abbrev doneS (c : Dev nD) (k : Fin 10) : sProp 𝕄 := semVal (sendCell c k) 0
/-- The receive cell of copy `k`, closed. -/
abbrev doneR (c : Dev nD) (k : Fin 10) : sProp 𝕄 := semVal (recvCell c k) 0

/-- A body that returns a value gives what holds of it; -/
theorem ret_step (c : Dev nD) {α : Type} (a : α) (Q : α → sProp 𝕄) : Q a ⊢ wpc (F := F) c (Prog.ret a) Q := by
  show Q a ⊢ wp frame (wpE (defs₀ (F := F)) 𝒱₀ (c : Thread nD τ) none) Set.univ (Prog.ret a) Q
  rw [wp_ret]; iintro H; imodintro; iexact H

/-- also if the value is given by an equal one. -/
theorem ret_eq (c : Dev nD) {α : Type} (a b : α) (h : a = b) (Q : α → sProp 𝕄) : Q b ⊢ wpc (F := F) c (Prog.ret a) Q := by
  subst h; exact ret_step c a Q

/-- Storing the sorted block fills the device's slot with `sorted1`. -/
theorem slot_stored (c : Dev nD) (f : Buf (Elt F) (scLoc c)) (w : FVec F S1x128x64 .bf16) (hw : w = sortBlock (devBit c) (x c)) :
    (scLoc c ↦[slotSet c]{fullShare} ((scM.access (slotR c)).write (Elt F) f w Finset.univ : Buf (Elt F) (scLoc c)) : sProp 𝕄)
      ⊢ (scLoc c ↦[slotSet c]{fullShare} (sorted1 x : Buf (Elt F) (scLoc c))) := by
  subst hw; exact Entails.of_eq (pointsTo_congr (store_slot x c f))
/-- Storing the merged group fills the group's slots with `sorted2`. -/
theorem group_stored (c : Dev nD) (f : Buf (Elt F) (scLoc c)) (w : FVec F S8x128x64 .bf16) (hw : w = mergeGroup (groupBit c) (groupOf (sorted1 x) c)) :
    (scLoc c ↦[groupSet c]{fullShare} ((scM.access (groupR c)).write (Elt F) f w Finset.univ : Buf (Elt F) (scLoc c)) : sProp 𝕄)
      ⊢ (scLoc c ↦[groupSet c]{fullShare} (sorted2 x : Buf (Elt F) (scLoc c))) := by
  subst hw; exact Entails.of_eq (pointsTo_congr (store_group x c f))

/-- The store of the sorted block stays in the device's slot; -/
theorem slot_sub (c : Dev nD) : (scM.access (slotR c)).set ⊆ slotSet c := (slotR_set c).subset
/-- the store of the merged group in the group's slots. -/
theorem group_sub (c : Dev nD) : (scM.access (groupR c)).set ⊆ groupSet c := (groupR_set c).subset
/-- Reading the group's slots gives the group of the contents. -/
theorem read_group (c : Dev nD) (f : S32x128x64.Idx → F .bf16) : ((scM.access (groupR c)).read (Elt F) f : S8x128x64.Idx → F .bf16) = groupOf f c := by
  funext j
  exact congrArg f (groupR_emb c j)

/-- Part 1: the device's number, and the first two signals. -/
theorem part1_run (c : Dev nD) (Q : (Σ' (d0 : Dev nD) (v2 : BitVec 32) (v19 : BitVec 32) (v20 : BitVec 32) (v21 : BitVec 32) (v22 : Sems sig S_) (v33 : BitVec 32), BitVec 32) → sProp 𝕄) :
    iprop(records x K ∗ levAts L lv ∗ owesE c (oweB c 10) ∗ sigIn c 0 ∗ sigIn c 1)
      ⊢ iprop((∀ v20 v21 v33 c8, (owesE c (oweB c 8)) -∗ Q (⟨c, word2 c, word19 c, v20, v21, SemArray.scalar (sig.barrier 0 rfl), v33, c8⟩)) -∗ wpc (F := F) c (k0_part1 xM hX oM hO scM hC cc0_scratch1 cc0_scratch2 ) Q) := by
  simp only [k0_part1_eq_skeleton]; unfold k0_part1_skel
  simp only [semSignalWord, semWaitWord, Prog.lift, Prog.bind_op, Prog.bind_ret, Prog.pure_eq_ret, wp_deviceId]
  simp only [word2, word19]
  iintro ⟨#HR, #Hlev, HO, HA0, HA1⟩ Hk
  iapply (sig_step x K c _ 0 (dev1_eq c) 9 rfl _ rfl _) $$ [HO HA0]
  · isplitr; · iexact HR
    isplitl [HO]; · iexact HO
    iexact HA0
  iintro HO
  iapply (sig_step x K c _ 1 (dev2_eq c) 8 rfl _ rfl _) $$ [HO HA1]
  · isplitr; · iexact HR
    isplitl [HO]; · iexact HO
    iexact HA1
  iintro HO
  iapply (ret_step c _ Q)
  iapply Hk
  iexact HO

/-- Part 2: the other five signals within the group. -/
theorem part2_run (c : Dev nD) (v19 v20 v21 v33 c8 : BitVec 32) (Q : (BitVec 32) → sProp 𝕄) :
    iprop(records x K ∗ levAts L lv ∗ owesE c (oweB c 8) ∗ sigIn c 2 ∗ sigIn c 3 ∗ sigIn c 4 ∗ sigIn c 5 ∗ sigIn c 6)
      ⊢ iprop((∀ v, (owesE c (oweB c 3)) -∗ Q (v)) -∗ wpc (F := F) c (k0_part2 xM hX oM hO scM hC cc0_scratch1 cc0_scratch2 c v19 v20 v21 (SemArray.scalar (sig.barrier 0 rfl)) v33 c8) Q) := by
  simp only [k0_part2_eq_skeleton]; unfold k0_part2_skel
  simp only [semSignalWord, semWaitWord, Prog.lift, Prog.bind_op, Prog.bind_ret, Prog.pure_eq_ret, wp_deviceId]
  iintro ⟨#HR, #Hlev, HO, HA2, HA3, HA4, HA5, HA6⟩ Hk
  iapply (sig_step x K c _ 2 (dev3_eq c) 7 rfl _ rfl _) $$ [HO HA2]
  · isplitr; · iexact HR
    isplitl [HO]; · iexact HO
    iexact HA2
  iintro HO
  iapply (sig_step x K c _ 3 (dev4_eq c) 6 rfl _ rfl _) $$ [HO HA3]
  · isplitr; · iexact HR
    isplitl [HO]; · iexact HO
    iexact HA3
  iintro HO
  iapply (sig_step x K c _ 4 (dev5_eq c) 5 rfl _ rfl _) $$ [HO HA4]
  · isplitr; · iexact HR
    isplitl [HO]; · iexact HO
    iexact HA4
  iintro HO
  iapply (sig_step x K c _ 5 (dev6_eq c) 4 rfl _ rfl _) $$ [HO HA5]
  · isplitr; · iexact HR
    isplitl [HO]; · iexact HO
    iexact HA5
  iintro HO
  iapply (sig_step x K c _ 6 (dev7_eq c) 3 rfl _ rfl _) $$ [HO HA6]
  · isplitr; · iexact HR
    isplitl [HO]; · iexact HO
    iexact HA6
  iintro HO
  iapply (ret_step c _ Q)
  iapply Hk
  iexact HO

/-- Part 3: the signals to the other groups, the barrier's wait, and the load of the device's block. -/
theorem part3_run (c : Dev nD) (v19 v20 v61 : BitVec 32) (Q : (Σ' (v77 : BitVec 1) (v79 : FVec F S128x64 .bf16) (v80 : IVec S128x1 32) (v85 : FVec F S128x64 .bf16) (v89 : IVec S128x1 1), IVec S128x1 1) → sProp 𝕄) :
    iprop(records x K ∗ levAts L lv ∗ owesE c (oweB c 3) ∗ sigIn c 7 ∗ sigIn c 8 ∗ sigIn c 9 ∗ cred (tallyAt (barCell c) () 10) ∗ atPos ER (barCell c) 0 ∅ 0 ∗ (((c : Thread nD τ).loc cc0_stg0_0) ↦{fullShare} (x c : Buf (Elt F) ((c : Thread nD τ).loc cc0_stg0_0))))
      ⊢ iprop(((owesE c (oweR c 10) ∗ semVal (barCell c) 0 ∗ (bigSep Finset.univ fun d => barPay (F := F) c d) ∗ (((c : Thread nD τ).loc cc0_stg0_0) ↦{fullShare} (x c : Buf (Elt F) ((c : Thread nD τ).loc cc0_stg0_0)))) -∗ Q (⟨devBit c, k0_pay1 (x c), iota .tc S128x1 32 [0] iota_S128x1_d0_w32, k0_pay2 (x c), k0_pay3, k0_pay4⟩)) -∗ wpc (F := F) c (k0_part3 xM hX oM hO scM hC cc0_scratch1 cc0_scratch2 c (word2 c) v19 v20 (SemArray.scalar (sig.barrier 0 rfl)) v61) Q) := by
  simp only [k0_part3_eq_skeleton]; unfold k0_part3_skel
  simp only [semSignalWord, semWaitWord, Prog.lift, Prog.bind_op, Prog.bind_ret, Prog.pure_eq_ret, wp_deviceId]
  iintro ⟨#HR, #Hlev, HO, HA7, HA8, HA9, Hbc, Hba, Hx⟩ Hk
  iapply (sig_step x K c _ 7 (dev8_eq c) 2 rfl _ rfl _) $$ [HO HA7]
  · isplitr; · iexact HR
    isplitl [HO]; · iexact HO
    iexact HA7
  iintro HO
  iapply (sig_step x K c _ 8 (dev9_eq c) 1 rfl _ rfl _) $$ [HO HA8]
  · isplitr; · iexact HR
    isplitl [HO]; · iexact HO
    iexact HA8
  iintro HO
  iapply (sig_step x K c _ 9 (dev10_eq c) 0 rfl _ rfl _) $$ [HO HA9]
  · isplitr; · iexact HR
    isplitl [HO]; · iexact HO
    iexact HA9
  iintro HO
  ihave HO := (show (owesE c (oweB c 0) : sProp 𝕄) ⊢ owesE c (oweR c 10) from Entails.refl _) $$ HO
  iapply (bar_step x K c _ rfl _) $$ [HO Hbc Hba]
  · isplitr; · iexact HR
    isplitr; · iexact Hlev
    isplitl [HO]; · iexact HO
    isplitl [Hbc]; · iexact Hbc
    iexact Hba
  iintro ⟨HO, Hbz, Hbp⟩
  iapply (wp_load 𝒱₀ (c : Thread nD τ) none Set.univ (m := xM) (Finset.subset_univ _)) $$ Hx; iintro Hx
  rw [show (xM.view.readAt (Elt F) (Rect.unit (s := S128x64) ![0, 0] S128x64.size inb_S128x64_S128x64_0_0).toLoadRect (x c)) = x c from
    Memref.readAt_unit_zero (Elt F) cc0_stg0_0 zeros2 _ (x c)]
  rw [bit77 c]
  iapply (ret_step c _ Q)
  iapply Hk
  isplitl [HO]; · iexact HO
  isplitl [Hbz]; · iexact Hbz
  isplitl [Hbp]; · iexact Hbp
  iexact Hx

/-- Part 15: the store of the sorted block in the device's slot. -/
theorem part15_run (c : Dev nD) (v2 v20 v21 : BitVec 32) (f : Buf (Elt F) (scLoc c)) (v77 : BitVec 1) (v80 : IVec S128x1 32) (v615 v620 : FVec F S128x64 .bf16) (v624 v625 : IVec S128x1 1)
    (hv : k0_pay43 v77 v80 v615 v620 v624 v625 = sortBlock (devBit c) (x c)) (Q : (Σ' (v669 : BitVec 32), BitVec 32) → sProp 𝕄) :
    iprop(records x K ∗ levAts L lv ∗ (scLoc c ↦[slotSet c]{fullShare} f))
      ⊢ iprop((∀ v w, ((scLoc c ↦[slotSet c]{fullShare} (sorted1 x : Buf (Elt F) (scLoc c)))) -∗ Q (⟨v, w⟩)) -∗ wpc (F := F) c (k0_part15 xM hX oM hO scM hC cc0_scratch1 cc0_scratch2 c v2 v20 v21 v77 v80 v615 v620 v624 v625) Q) := by
  simp only [k0_part15_eq_skeleton]; unfold k0_part15_skel
  simp only [semSignalWord, semWaitWord, Prog.lift, Prog.bind_op, Prog.bind_ret, Prog.pure_eq_ret, wp_deviceId]
  iintro ⟨#HR, #Hlev, Hslot⟩ Hk
  iapply (wp_load_rect 𝒱₀ (c : Thread nD τ) none Set.univ (m := scM) (r := slotR c) (S := slotSet c) (slot_sub c)) $$ Hslot; iintro Hslot
  iapply (wp_store 𝒱₀ (c : Thread nD τ) none Set.univ (m := scM) (r := slotR c) (Mk := Finset.univ) (S := slotSet c) (slot_sub c)) $$ Hslot; iintro Hslot
  ihave Hslot := (slot_stored x c f _ hv) $$ Hslot
  iapply (ret_step c _ Q)
  iapply Hk
  iexact Hslot

/-- Part 16: copies 0 and 1. -/
theorem part16_run (c : Dev nD) (v20 v21 v669 w : BitVec 32) (Q : (Σ' (v682 : BitVec 32), BitVec 32) → sProp 𝕄) :
    iprop(records x K ∗ levAts L lv ∗ owesE c (oweR c 10) ∗ sendPay x c 0 ∗ sendIn c 0 ∗ sendPay x c 1 ∗ sendIn c 1)
      ⊢ iprop((∀ v w, (owesE c (oweR c 8) ∗ sent c 0 ∗ sent c 1) -∗ Q (⟨v, w⟩)) -∗ wpc (F := F) c (k0_part16 xM hX oM hO scM hC cc0_scratch1 cc0_scratch2 c v20 v21 v669 w) Q) := by
  simp only [k0_part16_eq_skeleton]; unfold k0_part16_skel
  simp only [semSignalWord, semWaitWord, Prog.lift, Prog.bind_op, Prog.bind_ret, Prog.pure_eq_ret, wp_deviceId]
  iintro ⟨#HR, #Hlev, HO, HP0, HI0, HP1, HI1⟩ Hk
  icases HI0 with ⟨Hb, Ht, Hu⟩
  iapply (send_slot x K c _ 0 (by decide) (dev11_eq c) 9 rfl _ _ rfl rfl _) $$ [HO HP0 Hb Ht Hu]
  · isplitr; · iexact HR
    isplitl [HO]; · iexact HO
    isplitl [HP0]; · iexact HP0
    isplitl [Hb]; · iexact Hb
    isplitl [Ht]; · iexact Ht
    iexact Hu
  iintro ⟨HS0, HO⟩
  icases HI1 with ⟨Hb, Ht, Hu⟩
  iapply (send_slot x K c _ 1 (by decide) (dev12_eq c) 8 rfl _ _ rfl rfl _) $$ [HO HP1 Hb Ht Hu]
  · isplitr; · iexact HR
    isplitl [HO]; · iexact HO
    isplitl [HP1]; · iexact HP1
    isplitl [Hb]; · iexact Hb
    isplitl [Ht]; · iexact Ht
    iexact Hu
  iintro ⟨HS1, HO⟩
  iapply (ret_step c _ Q)
  iapply Hk
  isplitl [HO]; · iexact HO
  isplitl [HS0]; · iexact HS0
  iexact HS1

/-- Part 17: copies 2, 3 and 4. -/
theorem part17_run (c : Dev nD) (v20 v21 : BitVec 32) (Q : (Σ' (v708 : BitVec 32) (v721 : BitVec 32) (v734 : BitVec 32), BitVec 32) → sProp 𝕄) :
    iprop(records x K ∗ levAts L lv ∗ owesE c (oweR c 8) ∗ sendPay x c 2 ∗ sendIn c 2 ∗ sendPay x c 3 ∗ sendIn c 3 ∗ sendPay x c 4 ∗ sendIn c 4)
      ⊢ iprop((∀ v w u z, (owesE c (oweR c 5) ∗ sent c 2 ∗ sent c 3 ∗ sent c 4) -∗ Q (⟨v, w, u, z⟩)) -∗ wpc (F := F) c (k0_part17 xM hX oM hO scM hC cc0_scratch1 cc0_scratch2 c v20 v21) Q) := by
  simp only [k0_part17_eq_skeleton]; unfold k0_part17_skel
  simp only [semSignalWord, semWaitWord, Prog.lift, Prog.bind_op, Prog.bind_ret, Prog.pure_eq_ret, wp_deviceId]
  iintro ⟨#HR, #Hlev, HO, HP2, HI2, HP3, HI3, HP4, HI4⟩ Hk
  icases HI2 with ⟨Hb, Ht, Hu⟩
  iapply (send_slot x K c _ 2 (by decide) (dev13_eq c) 7 rfl _ _ rfl rfl _) $$ [HO HP2 Hb Ht Hu]
  · isplitr; · iexact HR
    isplitl [HO]; · iexact HO
    isplitl [HP2]; · iexact HP2
    isplitl [Hb]; · iexact Hb
    isplitl [Ht]; · iexact Ht
    iexact Hu
  iintro ⟨HS2, HO⟩
  icases HI3 with ⟨Hb, Ht, Hu⟩
  iapply (send_slot x K c _ 3 (by decide) (dev14_eq c) 6 rfl _ _ rfl rfl _) $$ [HO HP3 Hb Ht Hu]
  · isplitr; · iexact HR
    isplitl [HO]; · iexact HO
    isplitl [HP3]; · iexact HP3
    isplitl [Hb]; · iexact Hb
    isplitl [Ht]; · iexact Ht
    iexact Hu
  iintro ⟨HS3, HO⟩
  icases HI4 with ⟨Hb, Ht, Hu⟩
  iapply (send_slot x K c _ 4 (by decide) (dev15_eq c) 5 rfl _ _ rfl rfl _) $$ [HO HP4 Hb Ht Hu]
  · isplitr; · iexact HR
    isplitl [HO]; · iexact HO
    isplitl [HP4]; · iexact HP4
    isplitl [Hb]; · iexact Hb
    isplitl [Ht]; · iexact Ht
    iexact Hu
  iintro ⟨HS4, HO⟩
  iapply (ret_step c _ Q)
  iapply Hk
  isplitl [HO]; · iexact HO
  isplitl [HS2]; · iexact HS2
  isplitl [HS3]; · iexact HS3
  iexact HS4

/-- Part 18: copies 5 and 6, and the wait for copy 0's reading. -/
theorem part18_run (c : Dev nD) (v20 v21 v669 v734 w : BitVec 32) (Q : (BitVec 32) → sProp 𝕄) :
    iprop(records x K ∗ levAts L lv ∗ owesE c (oweR c 5) ∗ sendPay x c 5 ∗ sendIn c 5 ∗ sendPay x c 6 ∗ sendIn c 6 ∗ sent c 0 ∗ posS c 0)
      ⊢ iprop((∀ v, (owesE c (oweR c 3) ∗ sent c 5 ∗ sent c 6 ∗ doneS c 0 ∗ sendPay x c 0) -∗ Q (v)) -∗ wpc (F := F) c (k0_part18 xM hX oM hO scM hC cc0_scratch1 cc0_scratch2 c v20 v21 v669 v734 w) Q) := by
  simp only [k0_part18_eq_skeleton]; unfold k0_part18_skel
  simp only [semSignalWord, semWaitWord, Prog.lift, Prog.bind_op, Prog.bind_ret, Prog.pure_eq_ret, wp_deviceId]
  iintro ⟨#HR, #Hlev, HO, HP5, HI5, HP6, HI6, HS0, Hs0⟩ Hk
  icases HI5 with ⟨Hb, Ht, Hu⟩
  iapply (send_slot x K c _ 5 (by decide) (dev16_eq c) 4 rfl _ _ rfl rfl _) $$ [HO HP5 Hb Ht Hu]
  · isplitr; · iexact HR
    isplitl [HO]; · iexact HO
    isplitl [HP5]; · iexact HP5
    isplitl [Hb]; · iexact Hb
    isplitl [Ht]; · iexact Ht
    iexact Hu
  iintro ⟨HS5, HO⟩
  icases HI6 with ⟨Hb, Ht, Hu⟩
  iapply (send_slot x K c _ 6 (by decide) (dev17_eq c) 3 rfl _ _ rfl rfl _) $$ [HO HP6 Hb Ht Hu]
  · isplitr; · iexact HR
    isplitl [HO]; · iexact HO
    isplitl [HP6]; · iexact HP6
    isplitl [Hb]; · iexact Hb
    isplitl [Ht]; · iexact Ht
    iexact Hu
  iintro ⟨HS6, HO⟩
  iapply (wait_send x K c 0 3 (mayWait_low c _ (by decide)) _ _ (credit_slot 0 (by decide) c) _ rfl _) $$ [HO HS0 Hs0]
  · isplitr; · iexact HR
    isplitr; · iexact Hlev
    isplitl [HO]; · iexact HO
    isplitl [HS0]; · iexact HS0
    iexact Hs0
  iintro ⟨HO, HZ0, HP0⟩
  iapply (ret_step c _ Q)
  iapply Hk
  isplitl [HO]; · iexact HO
  isplitl [HS5]; · iexact HS5
  isplitl [HS6]; · iexact HS6
  isplitl [HZ0]; · iexact HZ0
  iexact HP0

/-- Part 19: waits. -/
theorem part19_run (c : Dev nD) (v682 v695 : BitVec 32) (Q : (BitVec 32) → sProp 𝕄) :
    iprop(records x K ∗ levAts L lv ∗ owesE c (oweR c 3) ∗ posR c 0 ∗ sent c 1 ∗ posS c 1 ∗ posR c 1 ∗ sent c 2 ∗ posS c 2)
      ⊢ iprop((∀ v, (owesE c (oweR c 3) ∗ doneR c 0 ∗ recvPay x c 0 ∗ doneS c 1 ∗ sendPay x c 1 ∗ doneR c 1 ∗ recvPay x c 1 ∗ doneS c 2 ∗ sendPay x c 2) -∗ Q (v)) -∗ wpc (F := F) c (k0_part19 xM hX oM hO scM hC cc0_scratch1 cc0_scratch2 c v682 v695) Q) := by
  simp only [k0_part19_eq_skeleton]; unfold k0_part19_skel
  simp only [semSignalWord, semWaitWord, Prog.lift, Prog.bind_op, Prog.bind_ret, Prog.pure_eq_ret, wp_deviceId]
  iintro ⟨#HR, #Hlev, HO, Hr0, HS1, Hs1, Hr1, HS2, Hs2⟩ Hk
  icases Hr0 with ⟨Hc, Ha⟩
  iapply (wait_recv x K c 0 3 (mayWait_low c _ (by decide)) _ _ (credit_slot 0 (by decide) c) _ rfl _) $$ [HO Hc Ha]
  · isplitr; · iexact HR
    isplitr; · iexact Hlev
    isplitl [HO]; · iexact HO
    isplitl [Hc]; · iexact Hc
    iexact Ha
  iintro ⟨HO, HY0, HQ0⟩
  iapply (wait_send x K c 1 3 (mayWait_low c _ (by decide)) _ _ (credit_slot 1 (by decide) c) _ rfl _) $$ [HO HS1 Hs1]
  · isplitr; · iexact HR
    isplitr; · iexact Hlev
    isplitl [HO]; · iexact HO
    isplitl [HS1]; · iexact HS1
    iexact Hs1
  iintro ⟨HO, HZ1, HP1⟩
  icases Hr1 with ⟨Hc, Ha⟩
  iapply (wait_recv x K c 1 3 (mayWait_low c _ (by decide)) _ _ (credit_slot 1 (by decide) c) _ rfl _) $$ [HO Hc Ha]
  · isplitr; · iexact HR
    isplitr; · iexact Hlev
    isplitl [HO]; · iexact HO
    isplitl [Hc]; · iexact Hc
    iexact Ha
  iintro ⟨HO, HY1, HQ1⟩
  iapply (wait_send x K c 2 3 (mayWait_low c _ (by decide)) _ _ (credit_slot 2 (by decide) c) _ rfl _) $$ [HO HS2 Hs2]
  · isplitr; · iexact HR
    isplitr; · iexact Hlev
    isplitl [HO]; · iexact HO
    isplitl [HS2]; · iexact HS2
    iexact Hs2
  iintro ⟨HO, HZ2, HP2⟩
  iapply (ret_step c _ Q)
  iapply Hk
  isplitl [HO]; · iexact HO
  isplitl [HY0]; · iexact HY0
  isplitl [HQ0]; · iexact HQ0
  isplitl [HZ1]; · iexact HZ1
  isplitl [HP1]; · iexact HP1
  isplitl [HY1]; · iexact HY1
  isplitl [HQ1]; · iexact HQ1
  isplitl [HZ2]; · iexact HZ2
  iexact HP2

/-- Part 20: waits. -/
theorem part20_run (c : Dev nD) (v708 v792 : BitVec 32) (Q : (PUnit) → sProp 𝕄) :
    iprop(records x K ∗ levAts L lv ∗ owesE c (oweR c 3) ∗ posR c 2 ∗ sent c 3 ∗ posS c 3 ∗ posR c 3 ∗ sent c 4 ∗ posS c 4)
      ⊢ iprop(((owesE c (oweR c 3) ∗ doneR c 2 ∗ recvPay x c 2 ∗ doneS c 3 ∗ sendPay x c 3 ∗ doneR c 3 ∗ recvPay x c 3 ∗ doneS c 4 ∗ sendPay x c 4) -∗ Q (⟨⟩)) -∗ wpc (F := F) c (k0_part20 xM hX oM hO scM hC cc0_scratch1 cc0_scratch2 c v708 v792) Q) := by
  simp only [k0_part20_eq_skeleton]; unfold k0_part20_skel
  simp only [semSignalWord, semWaitWord, Prog.lift, Prog.bind_op, Prog.bind_ret, Prog.pure_eq_ret, wp_deviceId]
  iintro ⟨#HR, #Hlev, HO, Hr2, HS3, Hs3, Hr3, HS4, Hs4⟩ Hk
  icases Hr2 with ⟨Hc, Ha⟩
  iapply (wait_recv x K c 2 3 (mayWait_low c _ (by decide)) _ _ (credit_slot 2 (by decide) c) _ rfl _) $$ [HO Hc Ha]
  · isplitr; · iexact HR
    isplitr; · iexact Hlev
    isplitl [HO]; · iexact HO
    isplitl [Hc]; · iexact Hc
    iexact Ha
  iintro ⟨HO, HY2, HQ2⟩
  iapply (wait_send x K c 3 3 (mayWait_low c _ (by decide)) _ _ (credit_slot 3 (by decide) c) _ rfl _) $$ [HO HS3 Hs3]
  · isplitr; · iexact HR
    isplitr; · iexact Hlev
    isplitl [HO]; · iexact HO
    isplitl [HS3]; · iexact HS3
    iexact Hs3
  iintro ⟨HO, HZ3, HP3⟩
  icases Hr3 with ⟨Hc, Ha⟩
  iapply (wait_recv x K c 3 3 (mayWait_low c _ (by decide)) _ _ (credit_slot 3 (by decide) c) _ rfl _) $$ [HO Hc Ha]
  · isplitr; · iexact HR
    isplitr; · iexact Hlev
    isplitl [HO]; · iexact HO
    isplitl [Hc]; · iexact Hc
    iexact Ha
  iintro ⟨HO, HY3, HQ3⟩
  iapply (wait_send x K c 4 3 (mayWait_low c _ (by decide)) _ _ (credit_slot 4 (by decide) c) _ rfl _) $$ [HO HS4 Hs4]
  · isplitr; · iexact HR
    isplitr; · iexact Hlev
    isplitl [HO]; · iexact HO
    isplitl [HS4]; · iexact HS4
    iexact Hs4
  iintro ⟨HO, HZ4, HP4⟩
  iapply (ret_step c _ Q)
  iapply Hk
  isplitl [HO]; · iexact HO
  isplitl [HY2]; · iexact HY2
  isplitl [HQ2]; · iexact HQ2
  isplitl [HZ3]; · iexact HZ3
  isplitl [HP3]; · iexact HP3
  isplitl [HY3]; · iexact HY3
  isplitl [HQ3]; · iexact HQ3
  isplitl [HZ4]; · iexact HZ4
  iexact HP4

/-- Part 21: waits. -/
theorem part21_run (c : Dev nD) (v721 v734 : BitVec 32) (Q : (PUnit) → sProp 𝕄) :
    iprop(records x K ∗ levAts L lv ∗ owesE c (oweR c 3) ∗ posR c 4 ∗ sent c 5 ∗ posS c 5 ∗ posR c 5 ∗ sent c 6 ∗ posS c 6)
      ⊢ iprop(((owesE c (oweR c 3) ∗ doneR c 4 ∗ recvPay x c 4 ∗ doneS c 5 ∗ sendPay x c 5 ∗ doneR c 5 ∗ recvPay x c 5 ∗ doneS c 6 ∗ sendPay x c 6) -∗ Q (⟨⟩)) -∗ wpc (F := F) c (k0_part21 xM hX oM hO scM hC cc0_scratch1 cc0_scratch2 c v721 v734) Q) := by
  simp only [k0_part21_eq_skeleton]; unfold k0_part21_skel
  simp only [semSignalWord, semWaitWord, Prog.lift, Prog.bind_op, Prog.bind_ret, Prog.pure_eq_ret, wp_deviceId]
  iintro ⟨#HR, #Hlev, HO, Hr4, HS5, Hs5, Hr5, HS6, Hs6⟩ Hk
  icases Hr4 with ⟨Hc, Ha⟩
  iapply (wait_recv x K c 4 3 (mayWait_low c _ (by decide)) _ _ (credit_slot 4 (by decide) c) _ rfl _) $$ [HO Hc Ha]
  · isplitr; · iexact HR
    isplitr; · iexact Hlev
    isplitl [HO]; · iexact HO
    isplitl [Hc]; · iexact Hc
    iexact Ha
  iintro ⟨HO, HY4, HQ4⟩
  iapply (wait_send x K c 5 3 (mayWait_low c _ (by decide)) _ _ (credit_slot 5 (by decide) c) _ rfl _) $$ [HO HS5 Hs5]
  · isplitr; · iexact HR
    isplitr; · iexact Hlev
    isplitl [HO]; · iexact HO
    isplitl [HS5]; · iexact HS5
    iexact Hs5
  iintro ⟨HO, HZ5, HP5⟩
  icases Hr5 with ⟨Hc, Ha⟩
  iapply (wait_recv x K c 5 3 (mayWait_low c _ (by decide)) _ _ (credit_slot 5 (by decide) c) _ rfl _) $$ [HO Hc Ha]
  · isplitr; · iexact HR
    isplitr; · iexact Hlev
    isplitl [HO]; · iexact HO
    isplitl [Hc]; · iexact Hc
    iexact Ha
  iintro ⟨HO, HY5, HQ5⟩
  iapply (wait_send x K c 6 3 (mayWait_low c _ (by decide)) _ _ (credit_slot 6 (by decide) c) _ rfl _) $$ [HO HS6 Hs6]
  · isplitr; · iexact HR
    isplitr; · iexact Hlev
    isplitl [HO]; · iexact HO
    isplitl [HS6]; · iexact HS6
    iexact Hs6
  iintro ⟨HO, HZ6, HP6⟩
  iapply (ret_step c _ Q)
  iapply Hk
  isplitl [HO]; · iexact HO
  isplitl [HY4]; · iexact HY4
  isplitl [HQ4]; · iexact HQ4
  isplitl [HZ5]; · iexact HZ5
  isplitl [HP5]; · iexact HP5
  isplitl [HY5]; · iexact HY5
  isplitl [HQ5]; · iexact HQ5
  isplitl [HZ6]; · iexact HZ6
  iexact HP6

/-- Part 22: the last wait within the group, and the load of the group's slots. -/
theorem part22_run (c : Dev nD) (v21 v747 : BitVec 32) (Q : (Σ' (v857 : BitVec 1) (v864 : IVec S512x1 32) (v865 : IVec S1x128 32) (v885 : FVec F S512x128 .bf16), FVec F S4x2x64x128 .bf16) → sProp 𝕄) :
    iprop(records x K ∗ levAts L lv ∗ owesE c (oweR c 3) ∗ posR c 6 ∗ (scLoc c ↦[slotSet c]{fullShare} (sorted1 x : Buf (Elt F) (scLoc c))) ∗ recvPay x c 0 ∗ recvPay x c 1 ∗ recvPay x c 2 ∗ recvPay x c 3 ∗ recvPay x c 4 ∗ recvPay x c 5)
      ⊢ iprop(((owesE c (oweR c 3) ∗ doneR c 6 ∗ (scLoc c ↦[groupSet c]{fullShare} (sorted1 x : Buf (Elt F) (scLoc c)))) -∗ Q (⟨groupBit c, iota .tc S512x1 32 [0] iota_S512x1_d0_w32, iota .tc S1x128 32 [1] iota_S1x128_d1_w32, k0_pay44 (groupOf (sorted1 x) c), k0_pay45 (groupOf (sorted1 x) c)⟩)) -∗ wpc (F := F) c (k0_part22 xM hX oM hO scM hC cc0_scratch1 cc0_scratch2 c (word19 c) v21 v747) Q) := by
  simp only [k0_part22_eq_skeleton]; unfold k0_part22_skel
  simp only [semSignalWord, semWaitWord, Prog.lift, Prog.bind_op, Prog.bind_ret, Prog.pure_eq_ret, wp_deviceId]
  iintro ⟨#HR, #Hlev, HO, Hr6, Hslot, HQ0, HQ1, HQ2, HQ3, HQ4, HQ5⟩ Hk
  icases Hr6 with ⟨Hc, Ha⟩
  iapply (wait_recv x K c 6 3 (mayWait_low c _ (by decide)) _ _ (credit_slot 6 (by decide) c) _ rfl _) $$ [HO Hc Ha]
  · isplitr; · iexact HR
    isplitr; · iexact Hlev
    isplitl [HO]; · iexact HO
    isplitl [Hc]; · iexact Hc
    iexact Ha
  iintro ⟨HO, HY6, HQ6⟩
  ihave Hgrp := (join_group x c) $$ [Hslot HQ0 HQ1 HQ2 HQ3 HQ4 HQ5 HQ6]
  · isplitl [Hslot]; · iexact Hslot
    isplitl [HQ0]; · iexact HQ0
    isplitl [HQ1]; · iexact HQ1
    isplitl [HQ2]; · iexact HQ2
    isplitl [HQ3]; · iexact HQ3
    isplitl [HQ4]; · iexact HQ4
    isplitl [HQ5]; · iexact HQ5
    iexact HQ6
  iapply (wp_load_rect 𝒱₀ (c : Thread nD τ) none Set.univ (m := scM) (r := groupR c) (S := groupSet c) (group_sub c)) $$ Hgrp; iintro Hgrp
  rw [read_group, bit857 c]
  iapply (ret_step c _ Q)
  iapply Hk
  isplitl [HO]; · iexact HO
  isplitl [HY6]; · iexact HY6
  iexact Hgrp

/-- Part 32: the store of the merged group, and copy 7. -/
theorem part32_run (c : Dev nD) (v20 v21 : BitVec 32) (v857 : BitVec 1) (v864 : IVec S512x1 32) (v1331 v1336 : FVec F S512x128 .bf16) (v1340 v1342 : IVec S512x1 1)
    (hv : k0_pay78 v857 v864 v1331 v1336 v1340 v1342 = mergeGroup (groupBit c) (groupOf (sorted1 x) c)) (Q : (BitVec 32) → sProp 𝕄) :
    iprop(records x K ∗ levAts L lv ∗ owesE c (oweR c 3) ∗ (scLoc c ↦[groupSet c]{fullShare} (sorted1 x : Buf (Elt F) (scLoc c))) ∗ sendIn c 7)
      ⊢ iprop((∀ v, (owesE c (oweR c 2) ∗ sendPay x c 8 ∗ sendPay x c 9 ∗ sent c 7) -∗ Q (v)) -∗ wpc (F := F) c (k0_part32 xM hX oM hO scM hC cc0_scratch1 cc0_scratch2 c (word19 c) v20 v21 v857 v864 v1331 v1336 v1340 v1342) Q) := by
  simp only [k0_part32_eq_skeleton]; unfold k0_part32_skel
  simp only [semSignalWord, semWaitWord, Prog.lift, Prog.bind_op, Prog.bind_ret, Prog.pure_eq_ret, wp_deviceId]
  iintro ⟨#HR, #Hlev, HO, Hgrp, HI7⟩ Hk
  iapply (wp_load_rect 𝒱₀ (c : Thread nD τ) none Set.univ (m := scM) (r := groupR c) (S := groupSet c) (group_sub c)) $$ Hgrp; iintro Hgrp
  iapply (wp_store 𝒱₀ (c : Thread nD τ) none Set.univ (m := scM) (r := groupR c) (Mk := Finset.univ) (S := groupSet c) (group_sub c)) $$ Hgrp; iintro Hgrp
  ihave Hgrp := (group_stored x c (sorted1 x) _ hv) $$ Hgrp
  ihave Hd := (Entails.of_eq (deal_group x c)) $$ Hgrp
  icases Hd with ⟨HP7, HP8, HP9⟩
  icases HI7 with ⟨Hb, Ht, Hu⟩
  iapply (send_group x K c _ 7 (by decide) (dev18_eq c) 2 rfl _ _ rfl rfl _) $$ [HO HP7 Hb Ht Hu]
  · isplitr; · iexact HR
    isplitl [HO]; · iexact HO
    isplitl [HP7]; · iexact HP7
    isplitl [Hb]; · iexact Hb
    isplitl [Ht]; · iexact Ht
    iexact Hu
  iintro ⟨HS7, HO⟩
  iapply (ret_step c _ Q)
  iapply Hk
  isplitl [HO]; · iexact HO
  isplitl [HP8]; · iexact HP8
  isplitl [HP9]; · iexact HP9
  iexact HS7

/-- Part 33: copies 8 and 9, and the wait for copy 7's reading. -/
theorem part33_run (c : Dev nD) (v19 v20 : BitVec 32) (Q : (Σ' (v1389 : BitVec 32), BitVec 32) → sProp 𝕄) :
    iprop(records x K ∗ levAts L lv ∗ owesE c (oweR c 2) ∗ sendPay x c 8 ∗ sendIn c 8 ∗ sendPay x c 9 ∗ sendIn c 9 ∗ sent c 7 ∗ posS c 7)
      ⊢ iprop((∀ v w, (owesE c (oweR c 0) ∗ sent c 8 ∗ sent c 9 ∗ doneS c 7 ∗ sendPay x c 7) -∗ Q (⟨v, w⟩)) -∗ wpc (F := F) c (k0_part33 xM hX oM hO scM hC cc0_scratch1 cc0_scratch2 c v19 v20) Q) := by
  simp only [k0_part33_eq_skeleton]; unfold k0_part33_skel
  simp only [semSignalWord, semWaitWord, Prog.lift, Prog.bind_op, Prog.bind_ret, Prog.pure_eq_ret, wp_deviceId]
  iintro ⟨#HR, #Hlev, HO, HP8, HI8, HP9, HI9, HS7, Hs7⟩ Hk
  icases HI8 with ⟨Hb, Ht, Hu⟩
  iapply (send_group x K c _ 8 (by decide) (dev19_eq c) 1 rfl _ _ rfl rfl _) $$ [HO HP8 Hb Ht Hu]
  · isplitr; · iexact HR
    isplitl [HO]; · iexact HO
    isplitl [HP8]; · iexact HP8
    isplitl [Hb]; · iexact Hb
    isplitl [Ht]; · iexact Ht
    iexact Hu
  iintro ⟨HS8, HO⟩
  icases HI9 with ⟨Hb, Ht, Hu⟩
  iapply (send_group x K c _ 9 (by decide) (dev20_eq c) 0 rfl _ _ rfl rfl _) $$ [HO HP9 Hb Ht Hu]
  · isplitr; · iexact HR
    isplitl [HO]; · iexact HO
    isplitl [HP9]; · iexact HP9
    isplitl [Hb]; · iexact Hb
    isplitl [Ht]; · iexact Ht
    iexact Hu
  iintro ⟨HS9, HO⟩
  iapply (wait_send x K c 7 0 (mayWait_none c _) _ _ (credit_group 7 (by decide) c) _ rfl _) $$ [HO HS7 Hs7]
  · isplitr; · iexact HR
    isplitr; · iexact Hlev
    isplitl [HO]; · iexact HO
    isplitl [HS7]; · iexact HS7
    iexact Hs7
  iintro ⟨HO, HZ7, HP7⟩
  iapply (ret_step c _ Q)
  iapply Hk
  isplitl [HO]; · iexact HO
  isplitl [HS8]; · iexact HS8
  isplitl [HS9]; · iexact HS9
  isplitl [HZ7]; · iexact HZ7
  iexact HP7

/-- Part 34: waits. -/
theorem part34_run (c : Dev nD) (v1377 v1389 v1401 : BitVec 32) (Q : (PUnit) → sProp 𝕄) :
    iprop(records x K ∗ levAts L lv ∗ owesE c (oweR c 0) ∗ posR c 7 ∗ sent c 8 ∗ posS c 8 ∗ posR c 8 ∗ sent c 9 ∗ posS c 9)
      ⊢ iprop(((owesE c (oweR c 0) ∗ doneR c 7 ∗ recvPay x c 7 ∗ doneS c 8 ∗ sendPay x c 8 ∗ doneR c 8 ∗ recvPay x c 8 ∗ doneS c 9 ∗ sendPay x c 9) -∗ Q (⟨⟩)) -∗ wpc (F := F) c (k0_part34 xM hX oM hO scM hC cc0_scratch1 cc0_scratch2 c v1377 v1389 v1401) Q) := by
  simp only [k0_part34_eq_skeleton]; unfold k0_part34_skel
  simp only [semSignalWord, semWaitWord, Prog.lift, Prog.bind_op, Prog.bind_ret, Prog.pure_eq_ret, wp_deviceId]
  iintro ⟨#HR, #Hlev, HO, Hr7, HS8, Hs8, Hr8, HS9, Hs9⟩ Hk
  icases Hr7 with ⟨Hc, Ha⟩
  iapply (wait_recv x K c 7 0 (mayWait_none c _) _ _ (credit_group 7 (by decide) c) _ rfl _) $$ [HO Hc Ha]
  · isplitr; · iexact HR
    isplitr; · iexact Hlev
    isplitl [HO]; · iexact HO
    isplitl [Hc]; · iexact Hc
    iexact Ha
  iintro ⟨HO, HY7, HQ7⟩
  iapply (wait_send x K c 8 0 (mayWait_none c _) _ _ (credit_group 8 (by decide) c) _ rfl _) $$ [HO HS8 Hs8]
  · isplitr; · iexact HR
    isplitr; · iexact Hlev
    isplitl [HO]; · iexact HO
    isplitl [HS8]; · iexact HS8
    iexact Hs8
  iintro ⟨HO, HZ8, HP8⟩
  icases Hr8 with ⟨Hc, Ha⟩
  iapply (wait_recv x K c 8 0 (mayWait_none c _) _ _ (credit_group 8 (by decide) c) _ rfl _) $$ [HO Hc Ha]
  · isplitr; · iexact HR
    isplitr; · iexact Hlev
    isplitl [HO]; · iexact HO
    isplitl [Hc]; · iexact Hc
    iexact Ha
  iintro ⟨HO, HY8, HQ8⟩
  iapply (wait_send x K c 9 0 (mayWait_none c _) _ _ (credit_group 9 (by decide) c) _ rfl _) $$ [HO HS9 Hs9]
  · isplitr; · iexact HR
    isplitr; · iexact Hlev
    isplitl [HO]; · iexact HO
    isplitl [HS9]; · iexact HS9
    iexact Hs9
  iintro ⟨HO, HZ9, HP9⟩
  iapply (ret_step c _ Q)
  iapply Hk
  isplitl [HO]; · iexact HO
  isplitl [HY7]; · iexact HY7
  isplitl [HQ7]; · iexact HQ7
  isplitl [HZ8]; · iexact HZ8
  isplitl [HP8]; · iexact HP8
  isplitl [HY8]; · iexact HY8
  isplitl [HQ8]; · iexact HQ8
  isplitl [HZ9]; · iexact HZ9
  iexact HP9

/-- Part 35: the last wait, and the load of the whole buffer. -/
theorem part35_run (c : Dev nD) (Q : (Σ' (v1445 : IVec S2048x1 32) (v1446 : IVec S1x128 32) (v1466 : FVec F S2048x128 .bf16) (v1471 : FVec F S2048x128 .bf16) (v1479 : IVec S2048x128 1), IVec S2048x128 1) → sProp 𝕄) :
    iprop(records x K ∗ levAts L lv ∗ owesE c (oweR c 0) ∗ posR c 9 ∗ sendPay x c 7 ∗ sendPay x c 8 ∗ sendPay x c 9 ∗ recvPay x c 7 ∗ recvPay x c 8)
      ⊢ iprop(((owesE c (oweR c 0) ∗ doneR c 9 ∗ (scLoc c ↦{fullShare} (sorted2 x : Buf (Elt F) (scLoc c)))) -∗ Q (⟨iota .tc S2048x1 32 [0] iota_S2048x1_d0_w32, iota .tc S1x128 32 [1] iota_S1x128_d1_w32, k0_pay79 (sorted2 x), k0_pay80 (sorted2 x), k0_pay81, k0_pay82⟩)) -∗ wpc (F := F) c (k0_part35 xM hX oM hO scM hC cc0_scratch1 cc0_scratch2 c) Q) := by
  simp only [k0_part35_eq_skeleton]; unfold k0_part35_skel
  simp only [semSignalWord, semWaitWord, Prog.lift, Prog.bind_op, Prog.bind_ret, Prog.pure_eq_ret, wp_deviceId]
  iintro ⟨#HR, #Hlev, HO, Hr9, HP7, HP8, HP9, HQ7, HQ8⟩ Hk
  icases Hr9 with ⟨Hc, Ha⟩
  iapply (wait_recv x K c 9 0 (mayWait_none c _) _ _ (credit_group 9 (by decide) c) _ rfl _) $$ [HO Hc Ha]
  · isplitr; · iexact HR
    isplitr; · iexact Hlev
    isplitl [HO]; · iexact HO
    isplitl [Hc]; · iexact Hc
    iexact Ha
  iintro ⟨HO, HY9, HQ9⟩
  ihave Hgrp := (Entails.of_eq (deal_group x c).symm) $$ [HP7 HP8 HP9]
  · isplitl [HP7]; · iexact HP7
    isplitl [HP8] <;> iassumption
  ihave Hall := (join_all x c) $$ [Hgrp HQ7 HQ8 HQ9]
  · isplitl [Hgrp]; · iexact Hgrp
    isplitl [HQ7]; · iexact HQ7
    isplitl [HQ8] <;> iassumption
  iapply (wp_load 𝒱₀ (c : Thread nD τ) none Set.univ (m := scM) (Finset.subset_univ _)) $$ Hall; iintro Hall
  rw [load_all]
  iapply (ret_step c _ Q)
  iapply Hk
  isplitl [HO]; · iexact HO
  isplitl [HY9]; · iexact HY9
  iexact Hall

/-- Part 42: the store of the last merge, and the load of the device's slot of it. -/
theorem part42_run (c : Dev nD) (v2 : BitVec 32) (v1445 : IVec S2048x1 32) (v1783 : FVec F S2048x128 .bf16) (v1787 : FVec F S256x2x4x128 .bf16)
    (hv : k0_pay100 v1445 v1783 v1787 = sorted3 x) (Q : (FVec F S128x64 .bf16) → sProp 𝕄) :
    iprop(records x K ∗ levAts L lv ∗ (scLoc c ↦{fullShare} (sorted2 x : Buf (Elt F) (scLoc c))))
      ⊢ iprop((((scLoc c ↦{fullShare} (sorted3 x : Buf (Elt F) (scLoc c)))) -∗ Q (result x c)) -∗ wpc (F := F) c (k0_part42 xM hX oM hO scM hC cc0_scratch1 cc0_scratch2 c v2 v1445 v1783 v1787) Q) := by
  simp only [k0_part42_eq_skeleton]; unfold k0_part42_skel
  simp only [semSignalWord, semWaitWord, Prog.lift, Prog.bind_op, Prog.bind_ret, Prog.pure_eq_ret, wp_deviceId]
  iintro ⟨#HR, #Hlev, Hall⟩ Hk
  iapply (wp_load 𝒱₀ (c : Thread nD τ) none Set.univ (m := scM) (Finset.subset_univ _)) $$ Hall; iintro Hall
  iapply (wp_store 𝒱₀ (c : Thread nD τ) none Set.univ (m := scM) (r := allR) (Mk := Finset.univ) (Finset.subset_univ _)) $$ Hall; iintro Hall
  rw [hv, store_all]
  iapply (wp_load 𝒱₀ (c : Thread nD τ) none Set.univ (m := scM) (Finset.subset_univ _)) $$ Hall; iintro Hall
  iapply (ret_eq c _ (result x c) (by rw [load_slot]; rfl) Q)
  iapply Hk
  iexact Hall

end Cert.DevSort
-- ==== Proof.Body.lean ====
/-
# The body of one device

The parts one after another, at a symbolic device: what the body takes and what it leaves.
-/
module

public import proofs.«01_k».proof.Proof.Parts

@[expose] public section

noncomputable section

namespace Cert.DevSort

open Cert.KernelIdeal Cert.KernelIdeal.Gen
open Idealize.ShloMosaic
open Idealize.ShloMosaic.TcCoe
open Idealize.ShloMosaic.ValueIdx (ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → FVec F S128x64 .bf16) (K : Dev nD × CellIx → ℕ)

/-- Part 4 computes: it goes on with its values. -/
theorem pure4 (c : Dev nD) (v79 : FVec F S128x64 .bf16) (v80 : IVec S128x1 32) (v85 : FVec F S128x64 .bf16) (v89 : IVec S128x1 1) (v93 : IVec S128x1 1) (Q : (Σ' (v140 : FVec F S128x64 .bf16) (v141 : FVec F S16x2x4x64 .bf16), FVec F S16x1x4x64 .bf16) → sProp 𝕄) :
    iprop(∀ u : (Σ' (v140 : FVec F S128x64 .bf16) (v141 : FVec F S16x2x4x64 .bf16), FVec F S16x1x4x64 .bf16), ⌜u = ⟨k0_pay5 v79 v80 v85 v89 v93, k0_pay6 v79 v80 v85 v89 v93, k0_pay7 v79 v80 v85 v89 v93⟩⌝ -∗ Q u) ⊢ wpc (F := F) c (k0_part4 xM hX oM hO scM hC cc0_scratch1 cc0_scratch2 v79 v80 v85 v89 v93) Q := by
  iintro H
  rw [show k0_part4 (F := F) xM hX oM hO scM hC cc0_scratch1 cc0_scratch2 v79 v80 v85 v89 v93 = Prog.ret (⟨k0_pay5 v79 v80 v85 v89 v93, k0_pay6 v79 v80 v85 v89 v93, k0_pay7 v79 v80 v85 v89 v93⟩) from rfl]
  iapply (ret_step c _ Q); iapply H; ipureintro; rfl

/-- Part 5 computes: it goes on with its values. -/
theorem pure5 (c : Dev nD) (v80 : IVec S128x1 32) (v140 : FVec F S128x64 .bf16) (v141 : FVec F S16x2x4x64 .bf16) (v142 : FVec F S16x1x4x64 .bf16) (Q : (Σ' (v180 : FVec F S128x64 .bf16) (v185 : FVec F S128x64 .bf16) (v189 : IVec S128x1 1), BitVec 32) → sProp 𝕄) :
    iprop(∀ u : (Σ' (v180 : FVec F S128x64 .bf16) (v185 : FVec F S128x64 .bf16) (v189 : IVec S128x1 1), BitVec 32), ⌜u = ⟨k0_pay8 v80 v140 v141 v142, k0_pay9 v80 v140 v141 v142, k0_pay10 v80, 1#32⟩⌝ -∗ Q u) ⊢ wpc (F := F) c (k0_part5 xM hX oM hO scM hC cc0_scratch1 cc0_scratch2 v80 v140 v141 v142) Q := by
  iintro H
  rw [show k0_part5 (F := F) xM hX oM hO scM hC cc0_scratch1 cc0_scratch2 v80 v140 v141 v142 = Prog.ret (⟨k0_pay8 v80 v140 v141 v142, k0_pay9 v80 v140 v141 v142, k0_pay10 v80, 1#32⟩) from rfl]
  iapply (ret_step c _ Q); iapply H; ipureintro; rfl

/-- Part 6 computes: it goes on with its values. -/
theorem pure6 (c : Dev nD) (v80 : IVec S128x1 32) (v180 : FVec F S128x64 .bf16) (v185 : FVec F S128x64 .bf16) (v189 : IVec S128x1 1) (c1_i32_83 : BitVec 32) (Q : (Σ' (v235 : IVec S128x1 1) (v236 : FVec F S128x64 .bf16), FVec F S128x64 .bf16) → sProp 𝕄) :
    iprop(∀ u : (Σ' (v235 : IVec S128x1 1) (v236 : FVec F S128x64 .bf16), FVec F S128x64 .bf16), ⌜u = ⟨k0_pay13 v80, k0_pay14 v80 v180 v185 v189 c1_i32_83, k0_pay15 v80 v180 v185 v189 c1_i32_83⟩⌝ -∗ Q u) ⊢ wpc (F := F) c (k0_part6 xM hX oM hO scM hC cc0_scratch1 cc0_scratch2 v80 v180 v185 v189 c1_i32_83) Q := by
  iintro H
  rw [show k0_part6 (F := F) xM hX oM hO scM hC cc0_scratch1 cc0_scratch2 v80 v180 v185 v189 c1_i32_83 = Prog.ret (⟨k0_pay13 v80, k0_pay14 v80 v180 v185 v189 c1_i32_83, k0_pay15 v80 v180 v185 v189 c1_i32_83⟩) from rfl]
  iapply (ret_step c _ Q); iapply H; ipureintro; rfl

/-- Part 7 computes: it goes on with its values. -/
theorem pure7 (c : Dev nD) (v80 : IVec S128x1 32) (v235 : IVec S128x1 1) (v236 : FVec F S128x64 .bf16) (v237 : FVec F S128x64 .bf16) (Q : (Σ' (v280 : FVec F S128x64 .bf16) (v285 : FVec F S128x64 .bf16), IVec S128x1 32) → sProp 𝕄) :
    iprop(∀ u : (Σ' (v280 : FVec F S128x64 .bf16) (v285 : FVec F S128x64 .bf16), IVec S128x1 32), ⌜u = ⟨k0_pay16 v80 v235 v236 v237, k0_pay17 v80 v235 v236 v237, k0_pay18⟩⌝ -∗ Q u) ⊢ wpc (F := F) c (k0_part7 xM hX oM hO scM hC cc0_scratch1 cc0_scratch2 v80 v235 v236 v237) Q := by
  iintro H
  rw [show k0_part7 (F := F) xM hX oM hO scM hC cc0_scratch1 cc0_scratch2 v80 v235 v236 v237 = Prog.ret (⟨k0_pay16 v80 v235 v236 v237, k0_pay17 v80 v235 v236 v237, k0_pay18⟩) from rfl]
  iapply (ret_step c _ Q); iapply H; ipureintro; rfl

/-- Part 8 computes: it goes on with its values. -/
theorem pure8 (c : Dev nD) (v80 : IVec S128x1 32) (v280 : FVec F S128x64 .bf16) (v285 : FVec F S128x64 .bf16) (v286 : IVec S128x1 32) (Q : (Σ' (v320 : FVec F S128x64 .bf16) (v325 : FVec F S128x64 .bf16) (v329 : IVec S128x1 1), IVec S128x1 1) → sProp 𝕄) :
    iprop(∀ u : (Σ' (v320 : FVec F S128x64 .bf16) (v325 : FVec F S128x64 .bf16) (v329 : IVec S128x1 1), IVec S128x1 1), ⌜u = ⟨k0_pay19 v80 v280 v285 v286, k0_pay20 v80 v280 v285 v286, k0_pay21 v80, k0_pay22 v80⟩⌝ -∗ Q u) ⊢ wpc (F := F) c (k0_part8 xM hX oM hO scM hC cc0_scratch1 cc0_scratch2 v80 v280 v285 v286) Q := by
  iintro H
  rw [show k0_part8 (F := F) xM hX oM hO scM hC cc0_scratch1 cc0_scratch2 v80 v280 v285 v286 = Prog.ret (⟨k0_pay19 v80 v280 v285 v286, k0_pay20 v80 v280 v285 v286, k0_pay21 v80, k0_pay22 v80⟩) from rfl]
  iapply (ret_step c _ Q); iapply H; ipureintro; rfl

/-- Part 9 computes: it goes on with its values. -/
theorem pure9 (c : Dev nD) (v80 : IVec S128x1 32) (v320 : FVec F S128x64 .bf16) (v325 : FVec F S128x64 .bf16) (v329 : IVec S128x1 1) (v333 : IVec S128x1 1) (Q : (Σ' (v380 : FVec F S128x64 .bf16) (v381 : FVec F S2x2x32x64 .bf16), FVec F S2x1x32x64 .bf16) → sProp 𝕄) :
    iprop(∀ u : (Σ' (v380 : FVec F S128x64 .bf16) (v381 : FVec F S2x2x32x64 .bf16), FVec F S2x1x32x64 .bf16), ⌜u = ⟨k0_pay23 v80 v320 v325 v329 v333, k0_pay24 v80 v320 v325 v329 v333, k0_pay25 v80 v320 v325 v329 v333⟩⌝ -∗ Q u) ⊢ wpc (F := F) c (k0_part9 xM hX oM hO scM hC cc0_scratch1 cc0_scratch2 v80 v320 v325 v329 v333) Q := by
  iintro H
  rw [show k0_part9 (F := F) xM hX oM hO scM hC cc0_scratch1 cc0_scratch2 v80 v320 v325 v329 v333 = Prog.ret (⟨k0_pay23 v80 v320 v325 v329 v333, k0_pay24 v80 v320 v325 v329 v333, k0_pay25 v80 v320 v325 v329 v333⟩) from rfl]
  iapply (ret_step c _ Q); iapply H; ipureintro; rfl

/-- Part 10 computes: it goes on with its values. -/
theorem pure10 (c : Dev nD) (v80 : IVec S128x1 32) (v380 : FVec F S128x64 .bf16) (v381 : FVec F S2x2x32x64 .bf16) (v382 : FVec F S2x1x32x64 .bf16) (Q : (Σ' (v420 : FVec F S128x64 .bf16) (v425 : FVec F S128x64 .bf16) (v429 : IVec S128x1 1), BitVec 32) → sProp 𝕄) :
    iprop(∀ u : (Σ' (v420 : FVec F S128x64 .bf16) (v425 : FVec F S128x64 .bf16) (v429 : IVec S128x1 1), BitVec 32), ⌜u = ⟨k0_pay26 v80 v380 v381 v382, k0_pay27 v80 v380 v381 v382, k0_pay28 v80, 8#32⟩⌝ -∗ Q u) ⊢ wpc (F := F) c (k0_part10 xM hX oM hO scM hC cc0_scratch1 cc0_scratch2 v80 v380 v381 v382) Q := by
  iintro H
  rw [show k0_part10 (F := F) xM hX oM hO scM hC cc0_scratch1 cc0_scratch2 v80 v380 v381 v382 = Prog.ret (⟨k0_pay26 v80 v380 v381 v382, k0_pay27 v80 v380 v381 v382, k0_pay28 v80, 8#32⟩) from rfl]
  iapply (ret_step c _ Q); iapply H; ipureintro; rfl

/-- Part 11 computes: it goes on with its values. -/
theorem pure11 (c : Dev nD) (v80 : IVec S128x1 32) (v420 : FVec F S128x64 .bf16) (v425 : FVec F S128x64 .bf16) (v429 : IVec S128x1 1) (c8_i32_141 : BitVec 32) (Q : (Σ' (v475 : IVec S128x1 1) (v476 : FVec F S128x64 .bf16), FVec F S128x64 .bf16) → sProp 𝕄) :
    iprop(∀ u : (Σ' (v475 : IVec S128x1 1) (v476 : FVec F S128x64 .bf16), FVec F S128x64 .bf16), ⌜u = ⟨k0_pay31 v80, k0_pay32 v80 v420 v425 v429 c8_i32_141, k0_pay33 v80 v420 v425 v429 c8_i32_141⟩⌝ -∗ Q u) ⊢ wpc (F := F) c (k0_part11 xM hX oM hO scM hC cc0_scratch1 cc0_scratch2 v80 v420 v425 v429 c8_i32_141) Q := by
  iintro H
  rw [show k0_part11 (F := F) xM hX oM hO scM hC cc0_scratch1 cc0_scratch2 v80 v420 v425 v429 c8_i32_141 = Prog.ret (⟨k0_pay31 v80, k0_pay32 v80 v420 v425 v429 c8_i32_141, k0_pay33 v80 v420 v425 v429 c8_i32_141⟩) from rfl]
  iapply (ret_step c _ Q); iapply H; ipureintro; rfl

/-- Part 12 computes: it goes on with its values. -/
theorem pure12 (c : Dev nD) (v77 : BitVec 1) (v80 : IVec S128x1 32) (v475 : IVec S128x1 1) (v476 : FVec F S128x64 .bf16) (v477 : FVec F S128x64 .bf16) (Q : (Σ' (v523 : FVec F S128x64 .bf16), FVec F S2x2x32x64 .bf16) → sProp 𝕄) :
    iprop(∀ u : (Σ' (v523 : FVec F S128x64 .bf16), FVec F S2x2x32x64 .bf16), ⌜u = ⟨k0_pay34 v77 v80 v475 v476 v477, k0_pay35 v77 v80 v475 v476 v477⟩⌝ -∗ Q u) ⊢ wpc (F := F) c (k0_part12 xM hX oM hO scM hC cc0_scratch1 cc0_scratch2 v77 v80 v475 v476 v477) Q := by
  iintro H
  rw [show k0_part12 (F := F) xM hX oM hO scM hC cc0_scratch1 cc0_scratch2 v77 v80 v475 v476 v477 = Prog.ret (⟨k0_pay34 v77 v80 v475 v476 v477, k0_pay35 v77 v80 v475 v476 v477⟩) from rfl]
  iapply (ret_step c _ Q); iapply H; ipureintro; rfl

/-- Part 13 computes: it goes on with its values. -/
theorem pure13 (c : Dev nD) (v77 : BitVec 1) (v80 : IVec S128x1 32) (v523 : FVec F S128x64 .bf16) (v527 : FVec F S2x2x32x64 .bf16) (Q : (Σ' (v569 : FVec F S128x64 .bf16) (v574 : FVec F S128x64 .bf16), IVec S128x1 32) → sProp 𝕄) :
    iprop(∀ u : (Σ' (v569 : FVec F S128x64 .bf16) (v574 : FVec F S128x64 .bf16), IVec S128x1 32), ⌜u = ⟨k0_pay36 v77 v80 v523 v527, k0_pay37 v77 v80 v523 v527, k0_pay38 v80⟩⌝ -∗ Q u) ⊢ wpc (F := F) c (k0_part13 xM hX oM hO scM hC cc0_scratch1 cc0_scratch2 v77 v80 v523 v527) Q := by
  iintro H
  rw [show k0_part13 (F := F) xM hX oM hO scM hC cc0_scratch1 cc0_scratch2 v77 v80 v523 v527 = Prog.ret (⟨k0_pay36 v77 v80 v523 v527, k0_pay37 v77 v80 v523 v527, k0_pay38 v80⟩) from rfl]
  iapply (ret_step c _ Q); iapply H; ipureintro; rfl

/-- Part 14 computes: it goes on with its values. -/
theorem pure14 (c : Dev nD) (v77 : BitVec 1) (v80 : IVec S128x1 32) (v569 : FVec F S128x64 .bf16) (v574 : FVec F S128x64 .bf16) (v576 : IVec S128x1 32) (Q : (Σ' (v615 : FVec F S128x64 .bf16) (v620 : FVec F S128x64 .bf16) (v624 : IVec S128x1 1), IVec S128x1 1) → sProp 𝕄) :
    iprop(∀ u : (Σ' (v615 : FVec F S128x64 .bf16) (v620 : FVec F S128x64 .bf16) (v624 : IVec S128x1 1), IVec S128x1 1), ⌜u = ⟨k0_pay39 v77 v80 v569 v574 v576, k0_pay40 v77 v80 v569 v574 v576, k0_pay41 v80, k0_pay42 v77⟩⌝ -∗ Q u) ⊢ wpc (F := F) c (k0_part14 xM hX oM hO scM hC cc0_scratch1 cc0_scratch2 v77 v80 v569 v574 v576) Q := by
  iintro H
  rw [show k0_part14 (F := F) xM hX oM hO scM hC cc0_scratch1 cc0_scratch2 v77 v80 v569 v574 v576 = Prog.ret (⟨k0_pay39 v77 v80 v569 v574 v576, k0_pay40 v77 v80 v569 v574 v576, k0_pay41 v80, k0_pay42 v77⟩) from rfl]
  iapply (ret_step c _ Q); iapply H; ipureintro; rfl

/-- Part 23 computes: it goes on with its values. -/
theorem pure23 (c : Dev nD) (v864 : IVec S512x1 32) (v885 : FVec F S512x128 .bf16) (v889 : FVec F S4x2x64x128 .bf16) (Q : (Σ' (v925 : FVec F S512x128 .bf16) (v930 : FVec F S512x128 .bf16) (v934 : IVec S512x1 1), IVec S512x1 32) → sProp 𝕄) :
    iprop(∀ u : (Σ' (v925 : FVec F S512x128 .bf16) (v930 : FVec F S512x128 .bf16) (v934 : IVec S512x1 1), IVec S512x1 32), ⌜u = ⟨k0_pay46 v864 v885 v889, k0_pay47 v864 v885 v889, k0_pay48 v864, k0_pay49 v864⟩⌝ -∗ Q u) ⊢ wpc (F := F) c (k0_part23 xM hX oM hO scM hC cc0_scratch1 cc0_scratch2 v864 v885 v889) Q := by
  iintro H
  rw [show k0_part23 (F := F) xM hX oM hO scM hC cc0_scratch1 cc0_scratch2 v864 v885 v889 = Prog.ret (⟨k0_pay46 v864 v885 v889, k0_pay47 v864 v885 v889, k0_pay48 v864, k0_pay49 v864⟩) from rfl]
  iapply (ret_step c _ Q); iapply H; ipureintro; rfl

/-- Part 24 computes: it goes on with its values. -/
theorem pure24 (c : Dev nD) (v864 : IVec S512x1 32) (v925 : FVec F S512x128 .bf16) (v930 : FVec F S512x128 .bf16) (v934 : IVec S512x1 1) (v936 : IVec S512x1 32) (Q : (Σ' (v981 : FVec F S512x128 .bf16) (v982 : FVec F S512x128 .bf16), IVec S512x128 1) → sProp 𝕄) :
    iprop(∀ u : (Σ' (v981 : FVec F S512x128 .bf16) (v982 : FVec F S512x128 .bf16), IVec S512x128 1), ⌜u = ⟨k0_pay52 v864 v925 v930 v934 v936, k0_pay53 v864 v925 v930 v934 v936, k0_pay54 v864⟩⌝ -∗ Q u) ⊢ wpc (F := F) c (k0_part24 xM hX oM hO scM hC cc0_scratch1 cc0_scratch2 v864 v925 v930 v934 v936) Q := by
  iintro H
  rw [show k0_part24 (F := F) xM hX oM hO scM hC cc0_scratch1 cc0_scratch2 v864 v925 v930 v934 v936 = Prog.ret (⟨k0_pay52 v864 v925 v930 v934 v936, k0_pay53 v864 v925 v930 v934 v936, k0_pay54 v864⟩) from rfl]
  iapply (ret_step c _ Q); iapply H; ipureintro; rfl

/-- Part 25 computes: it goes on with its values. -/
theorem pure25 (c : Dev nD) (v864 : IVec S512x1 32) (v865 : IVec S1x128 32) (v981 : FVec F S512x128 .bf16) (v982 : FVec F S512x128 .bf16) (v984 : IVec S512x128 1) (Q : (Σ' (v1025 : FVec F S512x128 .bf16) (v1030 : FVec F S512x128 .bf16) (v1032 : IVec S1x128 1), BitVec 32) → sProp 𝕄) :
    iprop(∀ u : (Σ' (v1025 : FVec F S512x128 .bf16) (v1030 : FVec F S512x128 .bf16) (v1032 : IVec S1x128 1), BitVec 32), ⌜u = ⟨k0_pay55 v864 v981 v982 v984, k0_pay56 v864 v981 v982 v984, k0_pay57 v865, 256#32⟩⌝ -∗ Q u) ⊢ wpc (F := F) c (k0_part25 xM hX oM hO scM hC cc0_scratch1 cc0_scratch2 v864 v865 v981 v982 v984) Q := by
  iintro H
  rw [show k0_part25 (F := F) xM hX oM hO scM hC cc0_scratch1 cc0_scratch2 v864 v865 v981 v982 v984 = Prog.ret (⟨k0_pay55 v864 v981 v982 v984, k0_pay56 v864 v981 v982 v984, k0_pay57 v865, 256#32⟩) from rfl]
  iapply (ret_step c _ Q); iapply H; ipureintro; rfl

/-- Part 26 computes: it goes on with its values. -/
theorem pure26 (c : Dev nD) (v864 : IVec S512x1 32) (v865 : IVec S1x128 32) (v1025 : FVec F S512x128 .bf16) (v1030 : FVec F S512x128 .bf16) (v1032 : IVec S1x128 1) (c256_i32_414 : BitVec 32) (Q : (Σ' (v1065 : FVec F S512x128 .bf16) (v1070 : FVec F S512x128 .bf16), IVec S512x128 1) → sProp 𝕄) :
    iprop(∀ u : (Σ' (v1065 : FVec F S512x128 .bf16) (v1070 : FVec F S512x128 .bf16), IVec S512x128 1), ⌜u = ⟨k0_pay58 v864 v865 v1025 v1030 v1032 c256_i32_414, k0_pay59 v864 v865 v1025 v1030 v1032 c256_i32_414, k0_pay60 v864 v865⟩⌝ -∗ Q u) ⊢ wpc (F := F) c (k0_part26 xM hX oM hO scM hC cc0_scratch1 cc0_scratch2 v864 v865 v1025 v1030 v1032 c256_i32_414) Q := by
  iintro H
  rw [show k0_part26 (F := F) xM hX oM hO scM hC cc0_scratch1 cc0_scratch2 v864 v865 v1025 v1030 v1032 c256_i32_414 = Prog.ret (⟨k0_pay58 v864 v865 v1025 v1030 v1032 c256_i32_414, k0_pay59 v864 v865 v1025 v1030 v1032 c256_i32_414, k0_pay60 v864 v865⟩) from rfl]
  iapply (ret_step c _ Q); iapply H; ipureintro; rfl

/-- Part 27 computes: it goes on with its values. -/
theorem pure27 (c : Dev nD) (v864 : IVec S512x1 32) (v865 : IVec S1x128 32) (v1065 : FVec F S512x128 .bf16) (v1070 : FVec F S512x128 .bf16) (v1082 : IVec S512x128 1) (Q : (Σ' (v1125 : FVec F S512x128 .bf16) (v1130 : FVec F S512x128 .bf16) (v1132 : IVec S1x128 1), BitVec 32) → sProp 𝕄) :
    iprop(∀ u : (Σ' (v1125 : FVec F S512x128 .bf16) (v1130 : FVec F S512x128 .bf16) (v1132 : IVec S1x128 1), BitVec 32), ⌜u = ⟨k0_pay61 v864 v865 v1065 v1070 v1082, k0_pay62 v864 v865 v1065 v1070 v1082, k0_pay63 v865, 8#32⟩⌝ -∗ Q u) ⊢ wpc (F := F) c (k0_part27 xM hX oM hO scM hC cc0_scratch1 cc0_scratch2 v864 v865 v1065 v1070 v1082) Q := by
  iintro H
  rw [show k0_part27 (F := F) xM hX oM hO scM hC cc0_scratch1 cc0_scratch2 v864 v865 v1065 v1070 v1082 = Prog.ret (⟨k0_pay61 v864 v865 v1065 v1070 v1082, k0_pay62 v864 v865 v1065 v1070 v1082, k0_pay63 v865, 8#32⟩) from rfl]
  iapply (ret_step c _ Q); iapply H; ipureintro; rfl

/-- Part 28 computes: it goes on with its values. -/
theorem pure28 (c : Dev nD) (v864 : IVec S512x1 32) (v865 : IVec S1x128 32) (v1125 : FVec F S512x128 .bf16) (v1130 : FVec F S512x128 .bf16) (v1132 : IVec S1x128 1) (c8_i32_434 : BitVec 32) (Q : (Σ' (v1165 : FVec F S512x128 .bf16) (v1170 : FVec F S512x128 .bf16), IVec S512x128 1) → sProp 𝕄) :
    iprop(∀ u : (Σ' (v1165 : FVec F S512x128 .bf16) (v1170 : FVec F S512x128 .bf16), IVec S512x128 1), ⌜u = ⟨k0_pay64 v864 v865 v1125 v1130 v1132 c8_i32_434, k0_pay65 v864 v865 v1125 v1130 v1132 c8_i32_434, k0_pay66 v864 v865⟩⌝ -∗ Q u) ⊢ wpc (F := F) c (k0_part28 xM hX oM hO scM hC cc0_scratch1 cc0_scratch2 v864 v865 v1125 v1130 v1132 c8_i32_434) Q := by
  iintro H
  rw [show k0_part28 (F := F) xM hX oM hO scM hC cc0_scratch1 cc0_scratch2 v864 v865 v1125 v1130 v1132 c8_i32_434 = Prog.ret (⟨k0_pay64 v864 v865 v1125 v1130 v1132 c8_i32_434, k0_pay65 v864 v865 v1125 v1130 v1132 c8_i32_434, k0_pay66 v864 v865⟩) from rfl]
  iapply (ret_step c _ Q); iapply H; ipureintro; rfl

/-- Part 29 computes: it goes on with its values. -/
theorem pure29 (c : Dev nD) (v857 : BitVec 1) (v864 : IVec S512x1 32) (v865 : IVec S1x128 32) (v1165 : FVec F S512x128 .bf16) (v1170 : FVec F S512x128 .bf16) (v1182 : IVec S512x128 1) (Q : (Σ' (v1229 : FVec F S512x128 .bf16) (v1234 : FVec F S512x128 .bf16), IVec S512x1 32) → sProp 𝕄) :
    iprop(∀ u : (Σ' (v1229 : FVec F S512x128 .bf16) (v1234 : FVec F S512x128 .bf16), IVec S512x1 32), ⌜u = ⟨k0_pay67 v857 v864 v865 v1165 v1170 v1182, k0_pay68 v857 v864 v865 v1165 v1170 v1182, k0_pay69⟩⌝ -∗ Q u) ⊢ wpc (F := F) c (k0_part29 xM hX oM hO scM hC cc0_scratch1 cc0_scratch2 v857 v864 v865 v1165 v1170 v1182) Q := by
  iintro H
  rw [show k0_part29 (F := F) xM hX oM hO scM hC cc0_scratch1 cc0_scratch2 v857 v864 v865 v1165 v1170 v1182 = Prog.ret (⟨k0_pay67 v857 v864 v865 v1165 v1170 v1182, k0_pay68 v857 v864 v865 v1165 v1170 v1182, k0_pay69⟩) from rfl]
  iapply (ret_step c _ Q); iapply H; ipureintro; rfl

/-- Part 30 computes: it goes on with its values. -/
theorem pure30 (c : Dev nD) (v857 : BitVec 1) (v864 : IVec S512x1 32) (v1229 : FVec F S512x128 .bf16) (v1234 : FVec F S512x128 .bf16) (v1235 : IVec S512x1 32) (Q : (Σ' (v1280 : FVec F S512x128 .bf16) (v1285 : FVec F S512x128 .bf16) (v1287 : IVec S512x1 32), IVec S512x1 32) → sProp 𝕄) :
    iprop(∀ u : (Σ' (v1280 : FVec F S512x128 .bf16) (v1285 : FVec F S512x128 .bf16) (v1287 : IVec S512x1 32), IVec S512x1 32), ⌜u = ⟨k0_pay70 v857 v864 v1229 v1234 v1235, k0_pay71 v857 v864 v1229 v1234 v1235, k0_pay72 v864, k0_pay73⟩⌝ -∗ Q u) ⊢ wpc (F := F) c (k0_part30 xM hX oM hO scM hC cc0_scratch1 cc0_scratch2 v857 v864 v1229 v1234 v1235) Q := by
  iintro H
  rw [show k0_part30 (F := F) xM hX oM hO scM hC cc0_scratch1 cc0_scratch2 v857 v864 v1229 v1234 v1235 = Prog.ret (⟨k0_pay70 v857 v864 v1229 v1234 v1235, k0_pay71 v857 v864 v1229 v1234 v1235, k0_pay72 v864, k0_pay73⟩) from rfl]
  iapply (ret_step c _ Q); iapply H; ipureintro; rfl

/-- Part 31 computes: it goes on with its values. -/
theorem pure31 (c : Dev nD) (v857 : BitVec 1) (v864 : IVec S512x1 32) (v1280 : FVec F S512x128 .bf16) (v1285 : FVec F S512x128 .bf16) (v1287 : IVec S512x1 32) (v1288 : IVec S512x1 32) (Q : (Σ' (v1331 : FVec F S512x128 .bf16) (v1336 : FVec F S512x128 .bf16) (v1340 : IVec S512x1 1), IVec S512x1 1) → sProp 𝕄) :
    iprop(∀ u : (Σ' (v1331 : FVec F S512x128 .bf16) (v1336 : FVec F S512x128 .bf16) (v1340 : IVec S512x1 1), IVec S512x1 1), ⌜u = ⟨k0_pay74 v857 v864 v1280 v1285 v1287 v1288, k0_pay75 v857 v864 v1280 v1285 v1287 v1288, k0_pay76 v864, k0_pay77 v857⟩⌝ -∗ Q u) ⊢ wpc (F := F) c (k0_part31 xM hX oM hO scM hC cc0_scratch1 cc0_scratch2 v857 v864 v1280 v1285 v1287 v1288) Q := by
  iintro H
  rw [show k0_part31 (F := F) xM hX oM hO scM hC cc0_scratch1 cc0_scratch2 v857 v864 v1280 v1285 v1287 v1288 = Prog.ret (⟨k0_pay74 v857 v864 v1280 v1285 v1287 v1288, k0_pay75 v857 v864 v1280 v1285 v1287 v1288, k0_pay76 v864, k0_pay77 v857⟩) from rfl]
  iapply (ret_step c _ Q); iapply H; ipureintro; rfl

/-- Part 36 computes: it goes on with its values. -/
theorem pure36 (c : Dev nD) (v1445 : IVec S2048x1 32) (v1446 : IVec S1x128 32) (v1466 : FVec F S2048x128 .bf16) (v1471 : FVec F S2048x128 .bf16) (v1479 : IVec S2048x128 1) (v1480 : IVec S2048x128 1) (Q : (Σ' (v1526 : FVec F S2048x128 .bf16), FVec F S2048x128 .bf16) → sProp 𝕄) :
    iprop(∀ u : (Σ' (v1526 : FVec F S2048x128 .bf16), FVec F S2048x128 .bf16), ⌜u = ⟨k0_pay83 v1445 v1446 v1466 v1471 v1479 v1480, k0_pay84 v1445 v1446 v1466 v1471 v1479 v1480⟩⌝ -∗ Q u) ⊢ wpc (F := F) c (k0_part36 xM hX oM hO scM hC cc0_scratch1 cc0_scratch2 v1445 v1446 v1466 v1471 v1479 v1480) Q := by
  iintro H
  rw [show k0_part36 (F := F) xM hX oM hO scM hC cc0_scratch1 cc0_scratch2 v1445 v1446 v1466 v1471 v1479 v1480 = Prog.ret (⟨k0_pay83 v1445 v1446 v1466 v1471 v1479 v1480, k0_pay84 v1445 v1446 v1466 v1471 v1479 v1480⟩) from rfl]
  iapply (ret_step c _ Q); iapply H; ipureintro; rfl

/-- Part 37 computes: it goes on with its values. -/
theorem pure37 (c : Dev nD) (v1445 : IVec S2048x1 32) (v1446 : IVec S1x128 32) (v1526 : FVec F S2048x128 .bf16) (v1531 : FVec F S2048x128 .bf16) (Q : (Σ' (v1566 : FVec F S2048x128 .bf16) (v1571 : FVec F S2048x128 .bf16) (v1579 : IVec S2048x128 1), IVec S2048x128 1) → sProp 𝕄) :
    iprop(∀ u : (Σ' (v1566 : FVec F S2048x128 .bf16) (v1571 : FVec F S2048x128 .bf16) (v1579 : IVec S2048x128 1), IVec S2048x128 1), ⌜u = ⟨k0_pay85 v1445 v1446 v1526 v1531, k0_pay86 v1445 v1446 v1526 v1531, k0_pay87 v1445, k0_pay88 v1446⟩⌝ -∗ Q u) ⊢ wpc (F := F) c (k0_part37 xM hX oM hO scM hC cc0_scratch1 cc0_scratch2 v1445 v1446 v1526 v1531) Q := by
  iintro H
  rw [show k0_part37 (F := F) xM hX oM hO scM hC cc0_scratch1 cc0_scratch2 v1445 v1446 v1526 v1531 = Prog.ret (⟨k0_pay85 v1445 v1446 v1526 v1531, k0_pay86 v1445 v1446 v1526 v1531, k0_pay87 v1445, k0_pay88 v1446⟩) from rfl]
  iapply (ret_step c _ Q); iapply H; ipureintro; rfl

/-- Part 38 computes: it goes on with its values. -/
theorem pure38 (c : Dev nD) (v1445 : IVec S2048x1 32) (v1446 : IVec S1x128 32) (v1566 : FVec F S2048x128 .bf16) (v1571 : FVec F S2048x128 .bf16) (v1579 : IVec S2048x128 1) (v1580 : IVec S2048x128 1) (Q : (Σ' (v1626 : FVec F S2048x128 .bf16), FVec F S2048x128 .bf16) → sProp 𝕄) :
    iprop(∀ u : (Σ' (v1626 : FVec F S2048x128 .bf16), FVec F S2048x128 .bf16), ⌜u = ⟨k0_pay89 v1445 v1446 v1566 v1571 v1579 v1580, k0_pay90 v1445 v1446 v1566 v1571 v1579 v1580⟩⌝ -∗ Q u) ⊢ wpc (F := F) c (k0_part38 xM hX oM hO scM hC cc0_scratch1 cc0_scratch2 v1445 v1446 v1566 v1571 v1579 v1580) Q := by
  iintro H
  rw [show k0_part38 (F := F) xM hX oM hO scM hC cc0_scratch1 cc0_scratch2 v1445 v1446 v1566 v1571 v1579 v1580 = Prog.ret (⟨k0_pay89 v1445 v1446 v1566 v1571 v1579 v1580, k0_pay90 v1445 v1446 v1566 v1571 v1579 v1580⟩) from rfl]
  iapply (ret_step c _ Q); iapply H; ipureintro; rfl

/-- Part 39 computes: it goes on with its values. -/
theorem pure39 (c : Dev nD) (v1445 : IVec S2048x1 32) (v1446 : IVec S1x128 32) (v1626 : FVec F S2048x128 .bf16) (v1631 : FVec F S2048x128 .bf16) (Q : (Σ' (v1671 : FVec F S2048x128 .bf16) (v1676 : FVec F S2048x128 .bf16) (v1680 : IVec S2048x1 1), FVec F S2048x128 .bf16) → sProp 𝕄) :
    iprop(∀ u : (Σ' (v1671 : FVec F S2048x128 .bf16) (v1676 : FVec F S2048x128 .bf16) (v1680 : IVec S2048x1 1), FVec F S2048x128 .bf16), ⌜u = ⟨k0_pay91 v1445 v1446 v1626 v1631, k0_pay92 v1445 v1446 v1626 v1631, k0_pay93 v1445, k0_pay94 v1445 v1446 v1626 v1631⟩⌝ -∗ Q u) ⊢ wpc (F := F) c (k0_part39 xM hX oM hO scM hC cc0_scratch1 cc0_scratch2 v1445 v1446 v1626 v1631) Q := by
  iintro H
  rw [show k0_part39 (F := F) xM hX oM hO scM hC cc0_scratch1 cc0_scratch2 v1445 v1446 v1626 v1631 = Prog.ret (⟨k0_pay91 v1445 v1446 v1626 v1631, k0_pay92 v1445 v1446 v1626 v1631, k0_pay93 v1445, k0_pay94 v1445 v1446 v1626 v1631⟩) from rfl]
  iapply (ret_step c _ Q); iapply H; ipureintro; rfl

/-- Part 40 computes: it goes on with its values. -/
theorem pure40 (c : Dev nD) (v1445 : IVec S2048x1 32) (v1671 : FVec F S2048x128 .bf16) (v1676 : FVec F S2048x128 .bf16) (v1680 : IVec S2048x1 1) (v1681 : FVec F S2048x128 .bf16) (Q : (Σ' (v1727 : FVec F S2048x128 .bf16) (v1732 : FVec F S2048x128 .bf16), IVec S2048x1 32) → sProp 𝕄) :
    iprop(∀ u : (Σ' (v1727 : FVec F S2048x128 .bf16) (v1732 : FVec F S2048x128 .bf16), IVec S2048x1 32), ⌜u = ⟨k0_pay95 v1445 v1671 v1676 v1680 v1681, k0_pay96 v1445 v1671 v1676 v1680 v1681, k0_pay97 v1445⟩⌝ -∗ Q u) ⊢ wpc (F := F) c (k0_part40 xM hX oM hO scM hC cc0_scratch1 cc0_scratch2 v1445 v1671 v1676 v1680 v1681) Q := by
  iintro H
  rw [show k0_part40 (F := F) xM hX oM hO scM hC cc0_scratch1 cc0_scratch2 v1445 v1671 v1676 v1680 v1681 = Prog.ret (⟨k0_pay95 v1445 v1671 v1676 v1680 v1681, k0_pay96 v1445 v1671 v1676 v1680 v1681, k0_pay97 v1445⟩) from rfl]
  iapply (ret_step c _ Q); iapply H; ipureintro; rfl

/-- Part 41 computes: it goes on with its values. -/
theorem pure41 (c : Dev nD) (v1445 : IVec S2048x1 32) (v1727 : FVec F S2048x128 .bf16) (v1732 : FVec F S2048x128 .bf16) (v1734 : IVec S2048x1 32) (Q : (Σ' (v1783 : FVec F S2048x128 .bf16), FVec F S256x2x4x128 .bf16) → sProp 𝕄) :
    iprop(∀ u : (Σ' (v1783 : FVec F S2048x128 .bf16), FVec F S256x2x4x128 .bf16), ⌜u = ⟨k0_pay98 v1445 v1727 v1732 v1734, k0_pay99 v1445 v1727 v1732 v1734⟩⌝ -∗ Q u) ⊢ wpc (F := F) c (k0_part41 xM hX oM hO scM hC cc0_scratch1 cc0_scratch2 v1445 v1727 v1732 v1734) Q := by
  iintro H
  rw [show k0_part41 (F := F) xM hX oM hO scM hC cc0_scratch1 cc0_scratch2 v1445 v1727 v1732 v1734 = Prog.ret (⟨k0_pay98 v1445 v1727 v1732 v1734, k0_pay99 v1445 v1727 v1732 v1734⟩) from rfl]
  iapply (ret_step c _ Q); iapply H; ipureintro; rfl

/-- A program and what follows it. -/
theorem bind_step (c : Dev nD) {α β : Type} (p : Prog (TpuEff nD τ sig (Elt F) Λ₀ .tc) α) (f : α → Prog (TpuEff nD τ sig (Elt F) Λ₀ .tc) β) (Q : β → sProp 𝕄) :
    wpc (F := F) c p (fun a => wpc (F := F) c (f a) Q) ⊢ wpc (F := F) c (p >>= f) Q :=
  Entails.of_eq (wp_bind _ _ _ _ _ _).symm

/-- Storing the result over the whole staging buffer leaves the result there. -/
theorem out_stored (c : Dev nD) (g : Buf (Elt F) ((c : Thread nD τ).loc cc0_stg1_0)) :
    (((c : Thread nD τ).loc cc0_stg1_0) ↦{fullShare} ((oM.access (Rect.unit (s := S128x64) ![0, 0] S128x64.size inb_S128x64_S128x64_0_0)).write (Elt F) g (result x c) Finset.univ
        : Buf (Elt F) ((c : Thread nD τ).loc cc0_stg1_0)) : sProp 𝕄)
      ⊢ (((c : Thread nD τ).loc cc0_stg1_0) ↦{fullShare} (result x c : Buf (Elt F) ((c : Thread nD τ).loc cc0_stg1_0))) := by
  rw [show (oM.access (Rect.unit (s := S128x64) ![0, 0] S128x64.size inb_S128x64_S128x64_0_0)).write (Elt F) g (result x c) Finset.univ = result x c from
    Memref.write_access_unit_zero_univ (Elt F) cc0_stg1_0 zeros2 _ g (result x c)]

/-- What the body takes besides the shared records and the levels. -/
def bodyIn (c : Dev nD) : sProp 𝕄 :=
  iprop((bigSep Finset.univ fun k : Fin 10 => sigIn (F := F) c k)
    ∗ (bigSep Finset.univ fun k : Fin 10 => iprop(dutyTok ER (sendCell c k) 0 0 ∗ dutyTok ER (recvCell (peer c k) k) 0 0))
    ∗ (bigSep Finset.univ fun k : Fin 10 => posS (F := F) c k) ∗ (bigSep Finset.univ fun k : Fin 10 => posR (F := F) c k)
    ∗ cred (tallyAt (barCell c) () 10) ∗ atPos ER (barCell c) 0 ∅ 0
    ∗ ∃ f : Buf (Elt F) (scLoc c), scLoc c ↦[slotSet c]{fullShare} f)
/-- What the body leaves: every cell closed, and the exchange buffer. -/
def bodyOut (c : Dev nD) : sProp 𝕄 :=
  iprop(semVal (barCell c) 0 ∗ (bigSep Finset.univ fun k : Fin 10 => doneS (F := F) c k) ∗ (bigSep Finset.univ fun k : Fin 10 => doneR (F := F) c k)
    ∗ (scLoc c ↦{fullShare} (sorted3 x : Buf (Elt F) (scLoc c))))

/-- What the ten barrier payments and the tokens of the copies' duties give is what the ten copies take. -/
theorem sends (c : Dev nD) :
    iprop((bigSep Finset.univ fun d => barPay (F := F) c d) ∗ bigSep Finset.univ fun k : Fin 10 => iprop(dutyTok ER (sendCell c k) 0 0 ∗ dutyTok ER (recvCell (peer c k) k) 0 0))
      ⊢ (bigSep Finset.univ fun k : Fin 10 => sendIn (F := F) c k : sProp 𝕄) :=
  Entails.of_eq (bigSep_sep' _ _ _).symm

set_option maxRecDepth 65536 in
set_option maxHeartbeats 4000000 in
/-- The body of device `c`: from its block `x c` it leaves its block of the result in the result's staging buffer. -/
theorem body_run (c : Dev nD) (g : Buf (Elt F) ((c : Thread nD τ).loc cc0_stg1_0)) (Kt : PUnit → sProp 𝕄) :
    iprop(records x K ∗ levAts L lv ∗ owesE c (O₀ c) ∗ bodyIn c ∗ (((c : Thread nD τ).loc cc0_stg0_0) ↦{fullShare} (x c : Buf (Elt F) ((c : Thread nD τ).loc cc0_stg0_0))) ∗ (((c : Thread nD τ).loc cc0_stg1_0) ↦{fullShare} (g : Buf (Elt F) ((c : Thread nD τ).loc cc0_stg1_0))))
      ⊢ iprop(((owesE c 0 ∗ bodyOut x c ∗ (((c : Thread nD τ).loc cc0_stg0_0) ↦{fullShare} (x c : Buf (Elt F) ((c : Thread nD τ).loc cc0_stg0_0))) ∗ (((c : Thread nD τ).loc cc0_stg1_0) ↦{fullShare} (result x c : Buf (Elt F) ((c : Thread nD τ).loc cc0_stg1_0)))) -∗ Kt ⟨⟩)
        -∗ wpc (F := F) c (cc0__body xM hX oM hO scM hC cc0_scratch1 cc0_scratch2) Kt) := by
  simp only [cc0__body_eq_skeleton]; unfold cc0__body_skel
  unfold bodyIn
  iintro ⟨#HR, #Hlev, HO, ⟨HA, HT, HS, HV, Hbc, Hba, ⟨%f0, Hslot⟩⟩, Hx, Hout⟩ Hk
  ihave H' := (Entails.of_eq (bigSep_ten (fun k : Fin 10 => sigIn (F := F) c k))) $$ HA
  icases H' with ⟨HA0, HA1, HA2, HA3, HA4, HA5, HA6, HA7, HA8, HA9⟩
  ihave H' := (Entails.of_eq (bigSep_ten (fun k : Fin 10 => posS (F := F) c k))) $$ HS
  icases H' with ⟨Hs0, Hs1, Hs2, Hs3, Hs4, Hs5, Hs6, Hs7, Hs8, Hs9⟩
  ihave H' := (Entails.of_eq (bigSep_ten (fun k : Fin 10 => posR (F := F) c k))) $$ HV
  icases H' with ⟨Hr0, Hr1, Hr2, Hr3, Hr4, Hr5, Hr6, Hr7, Hr8, Hr9⟩
  iapply (bind_step c _ _ _)
  iapply (part1_run x K c  _) $$ [HO HA0 HA1]
  · isplitr; · iexact HR
    isplitr; · iexact Hlev
    isplitl [HO]; · iexact HO
    isplitl [HA0]; · iexact HA0
    iexact HA1
  iintro %v20 %v21 %v33 %c8 HO
  try dsimp only
  iapply (bind_step c _ _ _)
  iapply (part2_run x K c _ _ _ _ _ _) $$ [HO HA2 HA3 HA4 HA5 HA6]
  · isplitr; · iexact HR
    isplitr; · iexact Hlev
    isplitl [HO]; · iexact HO
    isplitl [HA2]; · iexact HA2
    isplitl [HA3]; · iexact HA3
    isplitl [HA4]; · iexact HA4
    isplitl [HA5]; · iexact HA5
    iexact HA6
  iintro %v61 HO
  try dsimp only
  iapply (bind_step c _ _ _)
  iapply (part3_run x K c _ _ _ _) $$ [HO HA7 HA8 HA9 Hbc Hba Hx]
  · isplitr; · iexact HR
    isplitr; · iexact Hlev
    isplitl [HO]; · iexact HO
    isplitl [HA7]; · iexact HA7
    isplitl [HA8]; · iexact HA8
    isplitl [HA9]; · iexact HA9
    isplitl [Hbc]; · iexact Hbc
    isplitl [Hba]; · iexact Hba
    iexact Hx
  iintro ⟨HO, Hbz, Hbp, Hx⟩
  try dsimp only
  ihave HI := (sends (F := F) c) $$ [Hbp HT]
  · isplitl [Hbp] <;> iassumption
  ihave H' := (Entails.of_eq (bigSep_ten (fun k : Fin 10 => sendIn (F := F) c k))) $$ HI
  icases H' with ⟨HI0, HI1, HI2, HI3, HI4, HI5, HI6, HI7, HI8, HI9⟩
  iapply (bind_step c _ _ _)
  iapply (pure4 c _ _ _ _ _ _)
  iintro %u4 %h4
  rcases u4 with ⟨a4_0, a4_1, a4_2⟩
  try dsimp only
  iapply (bind_step c _ _ _)
  iapply (pure5 c _ _ _ _ _)
  iintro %u5 %h5
  rcases u5 with ⟨a5_0, a5_1, a5_2, a5_3⟩
  try dsimp only
  iapply (bind_step c _ _ _)
  iapply (pure6 c _ _ _ _ _ _)
  iintro %u6 %h6
  rcases u6 with ⟨a6_0, a6_1, a6_2⟩
  try dsimp only
  iapply (bind_step c _ _ _)
  iapply (pure7 c _ _ _ _ _)
  iintro %u7 %h7
  rcases u7 with ⟨a7_0, a7_1, a7_2⟩
  try dsimp only
  iapply (bind_step c _ _ _)
  iapply (pure8 c _ _ _ _ _)
  iintro %u8 %h8
  rcases u8 with ⟨a8_0, a8_1, a8_2, a8_3⟩
  try dsimp only
  iapply (bind_step c _ _ _)
  iapply (pure9 c _ _ _ _ _ _)
  iintro %u9 %h9
  rcases u9 with ⟨a9_0, a9_1, a9_2⟩
  try dsimp only
  iapply (bind_step c _ _ _)
  iapply (pure10 c _ _ _ _ _)
  iintro %u10 %h10
  rcases u10 with ⟨a10_0, a10_1, a10_2, a10_3⟩
  try dsimp only
  iapply (bind_step c _ _ _)
  iapply (pure11 c _ _ _ _ _ _)
  iintro %u11 %h11
  rcases u11 with ⟨a11_0, a11_1, a11_2⟩
  try dsimp only
  iapply (bind_step c _ _ _)
  iapply (pure12 c _ _ _ _ _ _)
  iintro %u12 %h12
  rcases u12 with ⟨a12_0, a12_1⟩
  try dsimp only
  iapply (bind_step c _ _ _)
  iapply (pure13 c _ _ _ _ _)
  iintro %u13 %h13
  rcases u13 with ⟨a13_0, a13_1, a13_2⟩
  try dsimp only
  iapply (bind_step c _ _ _)
  iapply (pure14 c _ _ _ _ _ _)
  iintro %u14 %h14
  rcases u14 with ⟨a14_0, a14_1, a14_2, a14_3⟩
  try dsimp only
  iapply (bind_step c _ _ _)
  iapply (part15_run x K c _ _ _ f0 _ _ _ _ _ _ (by cases h14; cases h13; cases h12; cases h11; cases h10; cases h9; cases h8; cases h7; cases h6; cases h5; cases h4; rfl) _) $$ [Hslot]
  · isplitr; · iexact HR
    isplitr; · iexact Hlev
    iexact Hslot
  iintro %w1 %w2 Hslot
  try dsimp only
  ihave Hd := (Entails.of_eq (deal_slot x c)) $$ Hslot
  icases Hd with ⟨HP0, HP1, HP2, HP3, HP4, HP5, HP6⟩
  iapply (bind_step c _ _ _)
  iapply (part16_run x K c _ _ _ _ _) $$ [HO HP0 HI0 HP1 HI1]
  · isplitr; · iexact HR
    isplitr; · iexact Hlev
    isplitl [HO]; · iexact HO
    isplitl [HP0]; · iexact HP0
    isplitl [HI0]; · iexact HI0
    isplitl [HP1]; · iexact HP1
    iexact HI1
  iintro %w3 %w4 ⟨HO, HS0, HS1⟩
  try dsimp only
  iapply (bind_step c _ _ _)
  iapply (part17_run x K c _ _ _) $$ [HO HP2 HI2 HP3 HI3 HP4 HI4]
  · isplitr; · iexact HR
    isplitr; · iexact Hlev
    isplitl [HO]; · iexact HO
    isplitl [HP2]; · iexact HP2
    isplitl [HI2]; · iexact HI2
    isplitl [HP3]; · iexact HP3
    isplitl [HI3]; · iexact HI3
    isplitl [HP4]; · iexact HP4
    iexact HI4
  iintro %w5 %w6 %w7 %w8 ⟨HO, HS2, HS3, HS4⟩
  try dsimp only
  iapply (bind_step c _ _ _)
  iapply (part18_run x K c _ _ _ _ _ _) $$ [HO HP5 HI5 HP6 HI6 HS0 Hs0]
  · isplitr; · iexact HR
    isplitr; · iexact Hlev
    isplitl [HO]; · iexact HO
    isplitl [HP5]; · iexact HP5
    isplitl [HI5]; · iexact HI5
    isplitl [HP6]; · iexact HP6
    isplitl [HI6]; · iexact HI6
    isplitl [HS0]; · iexact HS0
    iexact Hs0
  iintro %w9 ⟨HO, HS5, HS6, HZ0, HP0⟩
  try dsimp only
  iapply (bind_step c _ _ _)
  iapply (part19_run x K c _ _ _) $$ [HO Hr0 HS1 Hs1 Hr1 HS2 Hs2]
  · isplitr; · iexact HR
    isplitr; · iexact Hlev
    isplitl [HO]; · iexact HO
    isplitl [Hr0]; · iexact Hr0
    isplitl [HS1]; · iexact HS1
    isplitl [Hs1]; · iexact Hs1
    isplitl [Hr1]; · iexact Hr1
    isplitl [HS2]; · iexact HS2
    iexact Hs2
  iintro %w10 ⟨HO, HY0, HQ0, HZ1, HP1, HY1, HQ1, HZ2, HP2⟩
  try dsimp only
  iapply (bind_step c _ _ _)
  iapply (part20_run x K c _ _ _) $$ [HO Hr2 HS3 Hs3 Hr3 HS4 Hs4]
  · isplitr; · iexact HR
    isplitr; · iexact Hlev
    isplitl [HO]; · iexact HO
    isplitl [Hr2]; · iexact Hr2
    isplitl [HS3]; · iexact HS3
    isplitl [Hs3]; · iexact Hs3
    isplitl [Hr3]; · iexact Hr3
    isplitl [HS4]; · iexact HS4
    iexact Hs4
  iintro ⟨HO, HY2, HQ2, HZ3, HP3, HY3, HQ3, HZ4, HP4⟩
  try dsimp only
  iapply (bind_step c _ _ _)
  iapply (part21_run x K c _ _ _) $$ [HO Hr4 HS5 Hs5 Hr5 HS6 Hs6]
  · isplitr; · iexact HR
    isplitr; · iexact Hlev
    isplitl [HO]; · iexact HO
    isplitl [Hr4]; · iexact Hr4
    isplitl [HS5]; · iexact HS5
    isplitl [Hs5]; · iexact Hs5
    isplitl [Hr5]; · iexact Hr5
    isplitl [HS6]; · iexact HS6
    iexact Hs6
  iintro ⟨HO, HY4, HQ4, HZ5, HP5, HY5, HQ5, HZ6, HP6⟩
  try dsimp only
  ihave Hslot := (Entails.of_eq (deal_slot x c).symm) $$ [HP0 HP1 HP2 HP3 HP4 HP5 HP6]
  · isplitl [HP0]; · iexact HP0
    isplitl [HP1]; · iexact HP1
    isplitl [HP2]; · iexact HP2
    isplitl [HP3]; · iexact HP3
    isplitl [HP4]; · iexact HP4
    isplitl [HP5]; · iexact HP5
    iexact HP6
  iapply (bind_step c _ _ _)
  iapply (part22_run x K c _ _ _) $$ [HO Hr6 Hslot HQ0 HQ1 HQ2 HQ3 HQ4 HQ5]
  · isplitr; · iexact HR
    isplitr; · iexact Hlev
    isplitl [HO]; · iexact HO
    isplitl [Hr6]; · iexact Hr6
    isplitl [Hslot]; · iexact Hslot
    isplitl [HQ0]; · iexact HQ0
    isplitl [HQ1]; · iexact HQ1
    isplitl [HQ2]; · iexact HQ2
    isplitl [HQ3]; · iexact HQ3
    isplitl [HQ4]; · iexact HQ4
    iexact HQ5
  iintro ⟨HO, HY6, Hgrp⟩
  try dsimp only
  iapply (bind_step c _ _ _)
  iapply (pure23 c _ _ _ _)
  iintro %u23 %h23
  rcases u23 with ⟨a23_0, a23_1, a23_2, a23_3⟩
  try dsimp only
  iapply (bind_step c _ _ _)
  iapply (pure24 c _ _ _ _ _ _)
  iintro %u24 %h24
  rcases u24 with ⟨a24_0, a24_1, a24_2⟩
  try dsimp only
  iapply (bind_step c _ _ _)
  iapply (pure25 c _ _ _ _ _ _)
  iintro %u25 %h25
  rcases u25 with ⟨a25_0, a25_1, a25_2, a25_3⟩
  try dsimp only
  iapply (bind_step c _ _ _)
  iapply (pure26 c _ _ _ _ _ _ _)
  iintro %u26 %h26
  rcases u26 with ⟨a26_0, a26_1, a26_2⟩
  try dsimp only
  iapply (bind_step c _ _ _)
  iapply (pure27 c _ _ _ _ _ _)
  iintro %u27 %h27
  rcases u27 with ⟨a27_0, a27_1, a27_2, a27_3⟩
  try dsimp only
  iapply (bind_step c _ _ _)
  iapply (pure28 c _ _ _ _ _ _ _)
  iintro %u28 %h28
  rcases u28 with ⟨a28_0, a28_1, a28_2⟩
  try dsimp only
  iapply (bind_step c _ _ _)
  iapply (pure29 c _ _ _ _ _ _ _)
  iintro %u29 %h29
  rcases u29 with ⟨a29_0, a29_1, a29_2⟩
  try dsimp only
  iapply (bind_step c _ _ _)
  iapply (pure30 c _ _ _ _ _ _)
  iintro %u30 %h30
  rcases u30 with ⟨a30_0, a30_1, a30_2, a30_3⟩
  try dsimp only
  iapply (bind_step c _ _ _)
  iapply (pure31 c _ _ _ _ _ _ _)
  iintro %u31 %h31
  rcases u31 with ⟨a31_0, a31_1, a31_2, a31_3⟩
  try dsimp only
  iapply (bind_step c _ _ _)
  iapply (part32_run x K c _ _ _ _ _ _ _ _ (by cases h31; cases h30; cases h29; cases h28; cases h27; cases h26; cases h25; cases h24; cases h23; rfl) _) $$ [HO Hgrp HI7]
  · isplitr; · iexact HR
    isplitr; · iexact Hlev
    isplitl [HO]; · iexact HO
    isplitl [Hgrp]; · iexact Hgrp
    iexact HI7
  iintro %w11 ⟨HO, HP8, HP9, HS7⟩
  try dsimp only
  iapply (bind_step c _ _ _)
  iapply (part33_run x K c _ _ _) $$ [HO HP8 HI8 HP9 HI9 HS7 Hs7]
  · isplitr; · iexact HR
    isplitr; · iexact Hlev
    isplitl [HO]; · iexact HO
    isplitl [HP8]; · iexact HP8
    isplitl [HI8]; · iexact HI8
    isplitl [HP9]; · iexact HP9
    isplitl [HI9]; · iexact HI9
    isplitl [HS7]; · iexact HS7
    iexact Hs7
  iintro %w12 %w13 ⟨HO, HS8, HS9, HZ7, HP7⟩
  try dsimp only
  iapply (bind_step c _ _ _)
  iapply (part34_run x K c _ _ _ _) $$ [HO Hr7 HS8 Hs8 Hr8 HS9 Hs9]
  · isplitr; · iexact HR
    isplitr; · iexact Hlev
    isplitl [HO]; · iexact HO
    isplitl [Hr7]; · iexact Hr7
    isplitl [HS8]; · iexact HS8
    isplitl [Hs8]; · iexact Hs8
    isplitl [Hr8]; · iexact Hr8
    isplitl [HS9]; · iexact HS9
    iexact Hs9
  iintro ⟨HO, HY7, HQ7, HZ8, HP8, HY8, HQ8, HZ9, HP9⟩
  try dsimp only
  iapply (bind_step c _ _ _)
  iapply (part35_run x K c  _) $$ [HO Hr9 HP7 HP8 HP9 HQ7 HQ8]
  · isplitr; · iexact HR
    isplitr; · iexact Hlev
    isplitl [HO]; · iexact HO
    isplitl [Hr9]; · iexact Hr9
    isplitl [HP7]; · iexact HP7
    isplitl [HP8]; · iexact HP8
    isplitl [HP9]; · iexact HP9
    isplitl [HQ7]; · iexact HQ7
    iexact HQ8
  iintro ⟨HO, HY9, Hall⟩
  try dsimp only
  iapply (bind_step c _ _ _)
  iapply (pure36 c _ _ _ _ _ _ _)
  iintro %u36 %h36
  rcases u36 with ⟨a36_0, a36_1⟩
  try dsimp only
  iapply (bind_step c _ _ _)
  iapply (pure37 c _ _ _ _ _)
  iintro %u37 %h37
  rcases u37 with ⟨a37_0, a37_1, a37_2, a37_3⟩
  try dsimp only
  iapply (bind_step c _ _ _)
  iapply (pure38 c _ _ _ _ _ _ _)
  iintro %u38 %h38
  rcases u38 with ⟨a38_0, a38_1⟩
  try dsimp only
  iapply (bind_step c _ _ _)
  iapply (pure39 c _ _ _ _ _)
  iintro %u39 %h39
  rcases u39 with ⟨a39_0, a39_1, a39_2, a39_3⟩
  try dsimp only
  iapply (bind_step c _ _ _)
  iapply (pure40 c _ _ _ _ _ _)
  iintro %u40 %h40
  rcases u40 with ⟨a40_0, a40_1, a40_2⟩
  try dsimp only
  iapply (bind_step c _ _ _)
  iapply (pure41 c _ _ _ _ _)
  iintro %u41 %h41
  rcases u41 with ⟨a41_0, a41_1⟩
  try dsimp only
  iapply (bind_step c _ _ _)
  iapply (part42_run x K c _ _ _ _ (by cases h41; cases h40; cases h39; cases h38; cases h37; cases h36; rfl) _) $$ [Hall]
  · isplitr; · iexact HR
    isplitr; · iexact Hlev
    iexact Hall
  iintro Hall
  try dsimp only
  simp only [Prog.lift, Prog.bind_op, Prog.bind_ret, Prog.pure_eq_ret]
  iapply (wp_load 𝒱₀ (c : Thread nD τ) none Set.univ (m := oM) (Finset.subset_univ _)) $$ Hout; iintro Hout
  iapply (wp_store 𝒱₀ (c : Thread nD τ) none Set.univ (m := oM) (r := Rect.unit (s := S128x64) ![0, 0] S128x64.size inb_S128x64_S128x64_0_0) (Mk := Finset.univ) (Finset.subset_univ _)) $$ Hout; iintro Hout
  ihave Hout := (out_stored x c g) $$ Hout
  iapply (ret_step c _ Kt)
  iapply Hk
  isplitl [HO]; · iexact HO
  unfold bodyOut
  isplitr [Hx Hout]
  · isplitl [Hbz]; · iexact Hbz
    isplitl [HZ0 HZ1 HZ2 HZ3 HZ4 HZ5 HZ6 HZ7 HZ8 HZ9]
    · iapply (Entails.of_eq (bigSep_ten (fun k : Fin 10 => doneS (F := F) c k)).symm)
      isplitl [HZ0]; · iexact HZ0
      isplitl [HZ1]; · iexact HZ1
      isplitl [HZ2]; · iexact HZ2
      isplitl [HZ3]; · iexact HZ3
      isplitl [HZ4]; · iexact HZ4
      isplitl [HZ5]; · iexact HZ5
      isplitl [HZ6]; · iexact HZ6
      isplitl [HZ7]; · iexact HZ7
      isplitl [HZ8]; · iexact HZ8
      iexact HZ9
    isplitr [Hall]
    · iapply (Entails.of_eq (bigSep_ten (fun k : Fin 10 => doneR (F := F) c k)).symm)
      isplitl [HY0]; · iexact HY0
      isplitl [HY1]; · iexact HY1
      isplitl [HY2]; · iexact HY2
      isplitl [HY3]; · iexact HY3
      isplitl [HY4]; · iexact HY4
      isplitl [HY5]; · iexact HY5
      isplitl [HY6]; · iexact HY6
      isplitl [HY7]; · iexact HY7
      isplitl [HY8]; · iexact HY8
      iexact HY9
    iexact Hall
  isplitl [Hx]; · iexact Hx
  iexact Hout

end Cert.DevSort
-- ==== Proof.Launch.lean ====
/-
# The launch

From any memory with all semaphores at zero, every execution of the launch on the thirty-two devices ends, with every
device's result array holding that device's block of the result, its argument unchanged and every semaphore at zero.
-/
module

public import proofs.«01_k».proof.Proof.Body
public import proofs.«01_k».proof.Proof.Gen.KernelIdeal.Points
public import proofs.«01_k».proof.Proof.Gen.KernelIdeal.Frame
public import Idealize.ShloMosaic.Lib.Pipeline.CollectiveSegs

@[expose] public section

noncomputable section

namespace Cert.DevSort

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory the launch starts from: any contents, all semaphores at zero. -/
def s₀ : MemSt nD τ sig (Elt F) := ⟨m, fun _ => 0, ρ⟩

/-- The block of device `c`: its argument array. -/
def xin (c : Dev nD) : FVec F S128x64 .bf16 := (win0_0.blk (0 : Fin 1)).view.read (Elt F) ((s₀ m ρ).mem ((c : Thread nD τ).loc main_arg0))

/-! ## The pipeline's data -/

/-- The grid has one point; -/
theorem steps_one : cfg0.N = 1 := by decide
/-- this one, -/
def t₀ : Fin cfg0.N := ⟨0, by rw [steps_one]; decide⟩
/-- which every point is. -/
theorem step_eq (t : Fin cfg0.N) : t = t₀ := by
  obtain ⟨t, ht⟩ := t; have := steps_one; exact Fin.ext (by simp only [t₀]; omega)

/-- A device's own semaphores: those of its copies' two ends. -/
abbrev osem (bk : Fin 2 × Fin 10) : SemLoc sig := .dma (if bk.1 = 0 then sendQ bk.2 else recvQ bk.2)

/-- What a device pays with: its signals' duties and its copies' duties at both ends. -/
def payToks (c : Dev nD) : sProp 𝕄 :=
  iprop((bigSep Finset.univ fun k : Fin 10 => dutyTok ER (barCell (peer c k)) 0 (back k))
    ∗ (bigSep Finset.univ fun k : Fin 10 => dutyTok ER (sendCell c k) 0 0) ∗ bigSep Finset.univ fun k : Fin 10 => dutyTok ER (recvCell (peer c k) k) 0 0)

/-- What belongs to device `c` alone: its positions in its own cells and the tokens it pays with. -/
def linear (c : Dev nD) : sProp 𝕄 := iprop((bigSep Finset.univ fun k : CellIx => atPos ER (kcell (c, k)) 0 ∅ 0) ∗ payToks c)

/-- What device `c`'s body starts from, without its buffers. -/
def start (c : Dev nD) : sProp 𝕄 :=
  iprop((∃ K, records (xin m ρ) K ∗ linear c)
    ∗ ((bigSep Finset.univ fun k : Fin 10 => cred (tallyAt (recvCell c k) () (credit k))) ∗ cred (tallyAt (barCell c) () 10)) ∗ levAts L lv)

/-- What a device holds before its body: its part of the protocol and its exchange buffer, with any contents; -/
def Φ₀ (c : Dev nD) : sProp 𝕄 := iprop(start m ρ c ∗ ∃ f : Buf (Elt F) (scLoc c), scLoc c ↦{fullShare} f)
/-- and after it. -/
def Φ₁ (c : Dev nD) : sProp 𝕄 := bodyOut (xin m ρ) c

/-- The pipeline's data on device `c`: the arrays at launch, what the body leaves in the staging buffers, and what the device owes around it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => result (xin m ρ) c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- What holds of the two windows, one by one. -/
theorem bigSep_wins (Φ : Fin cfg0.W → sProp 𝕄) : bigSep Finset.univ Φ = iprop(Φ (0 : Fin 2) ∗ Φ (1 : Fin 2)) := bigSep_W0 Φ

/-- The argument is fetched. -/
theorem fetch_first (t : Fin cfg0.N) : (cfg0.win (0 : Fin 2)).fetch t = true := by rw [step_eq t]; rfl

/-- Owning a whole buffer with given contents is holding its location with them. -/
theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition, with the two windows one by one; -/
def before (c : Dev nD) : sProp 𝕄 :=
  iprop(Φ₀ m ρ c ∗ (dats m ρ 0 c).owesAt () t₀.castSucc
    ∗ (∃ d, staged c cc0_stg0_0 ((dats m ρ 0 c).before (0 : Fin 2) t₀ d))
    ∗ (∃ d, staged c cc0_stg1_0 ((dats m ρ 0 c).before (1 : Fin 2) t₀ d)))
/-- and its postcondition. -/
def after (c : Dev nD) : sProp 𝕄 :=
  iprop(Φ₁ m ρ c ∗ (dats m ρ 0 c).owesAt () t₀.succ ∗ staged c cc0_stg0_0 (xin m ρ c) ∗ staged c cc0_stg1_0 (result (xin m ρ) c))

/-! ## Regrouping over a device's cells -/

/-- Over a device's cells: the barrier cell, the send cells and the receive cells. -/
theorem bigSep_cells (Φ : CellIx → sProp 𝕄) :
    bigSep Finset.univ Φ = iprop(Φ none ∗ (bigSep Finset.univ fun k : Fin 10 => Φ (some (0, k))) ∗ bigSep Finset.univ fun k : Fin 10 => Φ (some (1, k))) := by
  rw [show (Finset.univ : Finset CellIx) = insert none (Finset.univ.map Function.Embedding.some) from rfl,
    bigSep_insert (by simp), bigSep_map, bigSep_univ_prod, BI.bigSep_fin_two]
  rfl

/-- What the body takes, from what the launch gives device `c`. -/
theorem body_start (c : Dev nD) (f : Buf (Elt F) (scLoc c)) :
    iprop(linear c ∗ ((bigSep Finset.univ fun k : Fin 10 => cred (tallyAt (recvCell c k) () (credit k))) ∗ cred (tallyAt (barCell c) () 10))
      ∗ (scLoc c ↦{fullShare} f)) ⊢ (bodyIn c : sProp 𝕄) := by
  unfold linear payToks bodyIn
  rw [bigSep_cells]
  iintro ⟨⟨⟨HaB, HaS, HaV⟩, HtB, HtS, HtV⟩, ⟨HcV, HcB⟩, Hsc⟩
  ihave Hsc := (split_all c f) $$ Hsc
  icases Hsc with ⟨Hslot, Hgive⟩
  isplitl [HtB Hgive]
  · iapply (Entails.of_eq (bigSep_sep' Finset.univ (fun k : Fin 10 => (dutyTok ER (barCell (peer c k)) 0 (back k) : sProp 𝕄)) (fun k => iprop(∃ f : Buf (Elt F) (scLoc c), scLoc c ↦[given c k]{fullShare} f))).symm)
    isplitl [HtB]; · iexact HtB
    iexact Hgive
  isplitl [HtS HtV]
  · iapply (Entails.of_eq (bigSep_sep' Finset.univ (fun k : Fin 10 => (dutyTok ER (sendCell c k) 0 0 : sProp 𝕄)) (fun k => dutyTok ER (recvCell (peer c k) k) 0 0)).symm)
    isplitl [HtS]; · iexact HtS
    iexact HtV
  isplitl [HaS]; · iexact HaS
  isplitl [HaV HcV]
  · iapply (Entails.of_eq (bigSep_sep' Finset.univ (fun k : Fin 10 => (cred (tallyAt (recvCell c k) () (credit k)) : sProp 𝕄)) (fun k => atPos ER (recvCell c k) 0 ∅ 0)).symm)
    isplitl [HcV]; · iexact HcV
    iexact HaV
  isplitl [HcB]; · iexact HcB
  isplitl [HaB]; · iexact HaB
  iexists f; iexact Hslot

set_option maxRecDepth 4000 in
set_option maxHeartbeats 1000000 in
/-- The body's obligation at the launch's only step. -/
theorem body_obligation (c : Dev nD) : BodyObligation (dats (F := F) m ρ 0 c) (defs₀ (F := F)) 𝒱₀ () Set.univ := fun t => by
  rw [step_eq t]
  rw [bigSep_wins, bigSep_wins]
  simp only [owns_eq]
  show before m ρ c ⊢ wpc (F := F) c (cc0__body xM hX oM hO scM hC cc0_scratch1 cc0_scratch2) (fun _ => after m ρ c)
  unfold before Φ₀ start
  iintro ⟨⟨⟨⟨%K, #HR, Hlin⟩, Hcr, #Hlev⟩, ⟨%f, Hsc⟩⟩, Ho, ⟨%d0, %g0, %hg0, Hx⟩, ⟨%d1, %g1, %hg1, Hout⟩⟩
  have hx : g0 = xin m ρ c := by rw [hg0]; unfold Dat.before; rw [if_pos (fetch_first t₀)]; rfl
  subst hx
  unfold Dat.owesAt Pipeline.owesWithin
  icases Ho with ⟨%W, %hW, HO⟩
  rw [show (dats m ρ 0 c).owed t₀.castSucc = O₀ c from rfl]
  ihave HB := (body_start (F := F) c f) $$ [Hlin Hcr Hsc]
  · isplitl [Hlin]; · iexact Hlin
    isplitl [Hcr]; · iexact Hcr
    iexact Hsc
  iapply (body_run (xin m ρ) K c g1 (fun _ => after m ρ c)) $$ [HO HB Hx Hout]
  · isplitr; · iexact HR
    isplitr; · iexact Hlev
    isplitl [HO]
    · unfold owesE; iexists W; iexact HO
    isplitl [HB]; · iexact HB
    isplitl [Hx]; · iexact Hx
    iexact Hout
  iintro ⟨HO, HB, Hx, Hout⟩
  unfold after Φ₁
  isplitl [HB]; · iexact HB
  isplitl [HO]
  · unfold Dat.owesAt Pipeline.owesWithin owesE
    icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

/-! ## What the launch gives -/

/-- The copies' semaphores are apart from the pipeline's. -/
theorem ownSemFacts : Pipeline.OwnSemFacts cfg0.spec osem := by decide

/-- Every array is held with its full share. -/
theorem share_full (c : Dev nD) (w : Fin cfg0.W) : (dats m ρ 0 c).share w = fullShare := by unfold Dat.share; split <;> rfl

/-- Different cells of a device have different semaphores; -/
theorem csem_injective : Function.Injective csem := by decide
/-- and so have those of all devices. -/
theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All cells of the protocol. -/
def allCells : Finset (GSem nD τ sig) := Finset.univ.map ⟨kcell, kcell_injective⟩

/-- The duties of a device's own cells: ten of the barrier cell, one of every send cell and of every receive cell. -/
abbrev dutyOf (jk : Fin 3 × Fin 10) : SemLoc sig × ℕ × Fin 10 := match jk.1 with
  | 0 => (.reg barS, 0, jk.2)
  | 1 => (.dma (sendQ jk.2), 0, 0)
  | 2 => (.dma (recvQ jk.2), 0, 0)
/-- Different numbers name different duties of a device's cells. -/
theorem dutyOf_injective : Function.Injective dutyOf := by decide
/-- The token of a duty of a device's cell. -/
abbrev tokOf (cj : Dev nD × (Fin 3 × Fin 10)) : GSem nD τ sig × ℕ × Fin 10 := (((cj.1 : Thread nD τ), (dutyOf cj.2).1), (dutyOf cj.2).2)
/-- Different duties have different tokens. -/
theorem tokOf_injective : Function.Injective tokOf := by
  rintro ⟨c, j⟩ ⟨c', j'⟩ h
  have h1 : c = c' := congrArg (fun x : GSem nD τ sig × ℕ × Fin 10 => x.1.1.1) h
  have h2 : j = j' := dutyOf_injective (congrArg (fun x : GSem nD τ sig × ℕ × Fin 10 => (x.1.2, x.2)) h)
  rw [h1, h2]
/-- All tokens of the protocol. -/
def allToks : Finset (GSem nD τ sig × ℕ × Fin 10) := Finset.univ.map ⟨tokOf, tokOf_injective⟩

/-- The ghost resource at launch: the pipeline's and the protocol's. -/
def u₀ : UU := (initOf (Pipeline.cells cfgs cellOf_inj) (Pipeline.launchToks cfgs cellOf_inj), initOf allCells allToks)

/-- The tokens of the duties of device `c`'s own cells. -/
def toks (c : Dev nD) : sProp 𝕄 :=
  iprop((bigSep Finset.univ fun k : Fin 10 => dutyTok ER (barCell c) 0 k)
    ∗ (bigSep Finset.univ fun k : Fin 10 => dutyTok ER (sendCell c k) 0 0) ∗ bigSep Finset.univ fun k : Fin 10 => dutyTok ER (recvCell c k) 0 0)

/-- What holds of three kinds of duty, one by one. -/
theorem bigSep_three (Φ : Fin 3 → sProp 𝕄) : bigSep Finset.univ Φ = iprop(Φ 0 ∗ Φ 1 ∗ Φ 2) := bigSep_univ_eq_bigSepL [0, 1, 2] (by decide) (by decide) Φ

/-- What device `c` is dealt at launch. -/
def G (c : Dev nD) : sProp 𝕄 :=
  iprop((bigSep Finset.univ fun k : CellIx => roundState ER (sortRd (xin m ρ)) (kcell (c, k)) 0)
    ∗ (bigSep Finset.univ fun k : CellIx => iprop(atPos ER (kcell (c, k)) 0 ∅ 0 ∗ reached ER (kcell (c, k)) 0)) ∗ toks c)

/-- What it has once the cells are opened to all. -/
def G' (c : Dev nD) : sProp 𝕄 := iprop(∃ K, records (xin m ρ) K ∗ linear c)

/-- The protocol's resource at launch is dealt to the devices. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_three]; rfl
  iintro HX
  imod (Rounds.fund ER (sortRd (xin m ρ)) allCells allToks) $$ HX with ⟨Hst, Hr, Hat, Htok⟩
  imodintro
  ihave Hst' := (Entails.of_eq (hX fun g => roundState ER (sortRd (xin m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's own semaphores are those of its send cells and its receive cells; -/
theorem ownSems_eq (c : Dev nD) : (Pipeline.ownSems0 (Ix := Unit) (Name := ℕ) (U := UU) (Lvl := ℕ) (Val := Elt F) (τ := τ) osem c : sProp 𝕄)
    = iprop((bigSep Finset.univ fun k : Fin 10 => semVal (sendCell c k) 0) ∗ bigSep Finset.univ fun k : Fin 10 => semVal (recvCell c k) 0) := by
  unfold Pipeline.ownSems0; rw [bigSep_univ_prod, BI.bigSep_fin_two]; rfl
/-- the barrier semaphore is the only other one. -/
theorem unscopedSems_eq (c : Dev nD) : (unscopedSems0 c : sProp 𝕄) = semVal (barCell c) 0 := by
  unfold unscopedSems0; rw [bigSep_eq_bigSepL_of_eq [SemLoc.reg barS] (by decide) (by decide)]; rfl

/-- The semaphores of a device at launch, all at zero, are those of its cells. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems_eq, unscopedSems_eq, bigSep_cells]
  iintro ⟨⟨HS, HV⟩, HB⟩
  isplitl [HB]; · iexact HB
  isplitl [HS]; · iexact HS
  iexact HV

/-- Each device opens its cells: their invariants, its place in their rounds and the tokens of their duties. -/
theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CellIx => iprop(∃ κ : ℕ, cellInv ER (sortRd (xin m ρ)) κ (kcell (c, k))))
          ∗ (bigSep Finset.univ fun k : CellIx => iprop(atPos ER (kcell (c, k)) 0 ∅ 0 ∗ reached ER (kcell (c, k)) 0)) ∗ toks c) := by
  unfold G
  iintro ⟨Hos, Hus, Hst, Hat, Htok⟩
  ihave Hv := (sems_eq (F := F) c) $$ [Hos Hus]
  · isplitl [Hos] <;> iassumption
  imod (show iprop((bigSep Finset.univ fun k : CellIx => semVal (kcell (c, k)) 0) ∗ bigSep Finset.univ fun k : CellIx => roundState ER (sortRd (xin m ρ)) (kcell (c, k)) 0)
      ⊢ (|={Set.univ}=> bigSep Finset.univ fun k => iprop(∃ κ : ℕ, cellInv ER (sortRd (xin m ρ)) κ (kcell (c, k))) : sProp 𝕄) from by
        rw [← bigSep_sep']
        exact (bigSep_mono fun k _ => (Rounds.body_intro ER (sortRd (xin m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Signal duties pass between peers: going to peer `k` and back. -/
def swapE : Dev nD × Fin 10 ≃ Dev nD × Fin 10 :=
  ⟨fun ck => (peer ck.1 ck.2, back ck.2), fun ck => (peer ck.1 ck.2, back ck.2),
    fun ck => Prod.ext (peer_back ck.1 ck.2) (back_back ck.2), fun ck => Prod.ext (peer_back ck.1 ck.2) (back_back ck.2)⟩
/-- Arrival duties pass to the peer that copies. -/
def arriveE : Dev nD × Fin 10 ≃ Dev nD × Fin 10 :=
  ⟨fun ck => (peer ck.1 ck.2, ck.2), fun ck => (peer ck.1 (back ck.2), ck.2),
    fun ck => Prod.ext (peer_back ck.1 ck.2) rfl, fun ck => Prod.ext (peer_back' ck.1 ck.2) rfl⟩

/-- The tokens of the barrier cells' duties, dealt to the devices that pay them. -/
theorem bar_around : (bigSep Finset.univ fun c : Dev nD => bigSep Finset.univ fun k : Fin 10 => (dutyTok ER (barCell c) 0 k : sProp 𝕄))
    = bigSep Finset.univ fun c : Dev nD => bigSep Finset.univ fun k : Fin 10 => dutyTok ER (barCell (peer c k)) 0 (back k) := by
  rw [← bigSep_univ_prod (fun ck : Dev nD × Fin 10 => (dutyTok ER (barCell ck.1) 0 ck.2 : sProp 𝕄)), bigSep_univ_equiv swapE, bigSep_univ_prod]; rfl
/-- The tokens of the receive cells' duties, dealt to the devices that send. -/
theorem recv_around : (bigSep Finset.univ fun c : Dev nD => bigSep Finset.univ fun k : Fin 10 => (dutyTok ER (recvCell c k) 0 0 : sProp 𝕄))
    = bigSep Finset.univ fun c : Dev nD => bigSep Finset.univ fun k : Fin 10 => dutyTok ER (recvCell (peer c k) k) 0 0 := by
  rw [← bigSep_univ_prod (fun ck : Dev nD × Fin 10 => (dutyTok ER (recvCell ck.1 ck.2) 0 0 : sProp 𝕄)), bigSep_univ_equiv arriveE, bigSep_univ_prod]; rfl

/-- The tokens dealt to those that pay with them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bar_around, recv_around]

/-- What is known for good can be used for each member of a product. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device takes its part beside what all devices know. -/
theorem share_records (K : Dev nD × CellIx → ℕ) (c : Dev nD) : iprop(records (xin m ρ) K ∗ linear c) ⊢ G' m ρ c := by
  unfold G'
  iintro H
  iexists K; iexact H

/-- From the cells opened by their owners to what each device starts with. -/
theorem regroup :
    (bigSep Finset.univ fun c : Dev nD => iprop((bigSep Finset.univ fun k : CellIx => iprop(∃ κ : ℕ, cellInv ER (sortRd (xin m ρ)) κ (kcell (c, k))))
          ∗ (bigSep Finset.univ fun k : CellIx => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CellIx => iprop(∃ κ : ℕ, cellInv ER (sortRd (xin m ρ)) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (sortRd (xin m ρ)) κ (kcell ck) : sProp 𝕄))) $$ HI
  icases HK with ⟨%K, #HI⟩
  ihave Htk := (toks_around (F := F)) $$ Htok
  iapply (bigSep_beside (R := records (xin m ρ) K) fun c _ => share_records m ρ K c)
  isplitr
  · unfold records; isplitl; · iexact HI
    iexact HR
  · unfold linear
    iapply (Entails.of_eq (bigSep_sep' Finset.univ (fun c : Dev nD => bigSep Finset.univ fun k : CellIx => (atPos ER (kcell (c, k)) 0 ∅ 0 : sProp 𝕄)) payToks).symm)
    isplitl [Hat]; · iexact Hat
    iexact Htk

/-- The step taken for all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (regroup m ρ))

/-! ## The launch's credit -/

/-- The credit of the last `n` receive cells. -/
def credR (c : Dev nD) : ℕ → sProp 𝕄
  | 0 => iprop(emp)
  | n + 1 => iprop(credR c n ∗ cred (tallyAt (recvCell c (nth n)) () (credit (nth n))))

/-- The launch's credit for the receive cells, cell by cell; -/
theorem launch_recv (c : Dev nD) (n : ℕ) : (Pipeline.launchCred (fun d => oweR d n) c : sProp 𝕄) ⊢ credR c n := by
  induction n with
  | zero => exact Entails.of_eq (Pipeline.launchCred_zero c)
  | succ n ih =>
    refine (Entails.of_eq (Pipeline.launchCred_add (fun d => oweR d n) (fun d => tallyAt (recvCell (peer d (nth n)) (nth n)) () (credit (nth n))) c)).trans ?_
    exact BI.sep_mono ih (Pipeline.launchCred_tallyAt (.dma (recvQ (nth n))) (fun d => peer d (nth n)) (fun d => peer d (back (nth n)))
      (fun d => peer_back' d _) (fun d => peer_back d _) () _ c)

/-- for these and `n` units of the barrier cell; -/
theorem launch_all (c : Dev nD) (n : ℕ) : (Pipeline.launchCred (fun d => oweB d n) c : sProp 𝕄) ⊢ iprop(credR c 10 ∗ cred (tallyAt (barCell c) () n)) := by
  induction n with
  | zero =>
    rw [tallyAt_zero, cred_zero]
    iintro H
    isplitl; · iapply (launch_recv c 10); iexact H
    iempintro
  | succ n ih =>
    refine (Entails.of_eq (Pipeline.launchCred_add (fun d => oweB d n) (fun d => tallyAt (barCell (peer d (nth n))) () 1) c)).trans ?_
    refine (BI.sep_mono ih (Pipeline.launchCred_tallyAt (.reg barS) (fun d => peer d (nth n)) (fun d => peer d (back (nth n)))
      (fun d => peer_back' d _) (fun d => peer_back d _) () 1 c)).trans ?_
    show iprop((credR c 10 ∗ cred (tallyAt (barCell c) () n)) ∗ cred (tallyAt (barCell c) () 1)) ⊢ iprop(credR c 10 ∗ cred (tallyAt (barCell c) () (n + 1)))
    rw [← tallyAt_add]
    iintro ⟨⟨H1, H2⟩, H3⟩
    isplitl [H1]; · iexact H1
    iapply (cred_add _ _).2
    isplitl [H2]; · iexact H2
    iexact H3

/-- and for all that a device waits for. -/
theorem creds (c : Dev nD) : (Pipeline.launchCred O₀ c : sProp 𝕄)
    ⊢ iprop((bigSep Finset.univ fun k : Fin 10 => cred (tallyAt (recvCell c k) () (credit k))) ∗ cred (tallyAt (barCell c) () 10)) := by
  refine (launch_all c 10).trans (sep_mono_left ?_)
  rw [bigSep_ten]
  simp only [credR]
  rw [show nth 0 = 9 from rfl, show nth 1 = 8 from rfl, show nth 2 = 7 from rfl, show nth 3 = 6 from rfl, show nth 4 = 5 from rfl,
    show nth 5 = 4 from rfl, show nth 6 = 3 from rfl, show nth 7 = 2 from rfl, show nth 8 = 1 from rfl, show nth 9 = 0 from rfl]
  iintro ⟨⟨⟨⟨⟨⟨⟨⟨⟨⟨-, H9⟩, H8⟩, H7⟩, H6⟩, H5⟩, H4⟩, H3⟩, H2⟩, H1⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The launch theorem's conditions -/

/-- The launch gives each device what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- With its exchange buffer this is what its body needs. -/
theorem first_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

/-- After the body every semaphore is at zero and the exchange buffer is given back. -/
theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems_eq, unscopedSems_eq]
  unfold Φ₁ bodyOut
  iintro ⟨HzB, HzS, HzV, Hr⟩
  isplitl [HzB]; · iexact HzB
  isplitl [HzS HzV]
  · isplitl [HzS]; · iexact HzS
    iexact HzV
  iexists (sorted3 (xin m ρ)); iexact Hr

/-- The pipeline's own waits lie below what the device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the pipeline leaves in the array of window `w` of device `c`. -/
def finalA (c : Dev nD) (w : Fin cfg0.W) : Buf (Elt F) ((cfg0.win w).arr.view.loc (c : Thread nD τ)) := (dats m ρ 0 c).arrAt w cfg0.N

/-- The final memories: every device's two arrays as the pipeline leaves them. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with all semaphores at zero: every fair execution of the launch on the thirty-two
    devices ends, with the arrays as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array keeps what it held. -/
theorem final_arg (c : Dev nD) : finalA m ρ c (0 : Fin 2) = (s₀ m ρ).mem (win0_0.arr.view.loc (c : Thread nD τ)) :=
  (dats (F := F) m ρ 0 c).arrAt_in (0 : Fin 2) rfl _

end Cert.DevSort
-- ==== Proof.Frames.lean ====
/-
# The frames

The kernel, the same program read over the extended reals, and the reference end from every memory, leave their
arguments unchanged and all semaphores at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.DevSort

open Idealize.ShloMosaic Idealize.SL.Sem

/-- For any float values: the argument arrays end as they began, and every semaphore at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (final_arg m ρ c), h.2⟩) (run_main m ρ)

/-- The two programs have the same body table; -/
theorem bodies_same : @Cert.Kernel.defs₀ Bits _ _ = @Cert.KernelIdeal.defs₀ Bits _ _ := by
  unfold Cert.Kernel.defs₀ Cert.KernelIdeal.defs₀
  refine congrArg Defs.onTc ?_
  funext ℓ p
  match ℓ, p with
  | 0, (t, s) => rfl
  | ⟨_ + 1, h⟩, _ => exact absurd h (Nat.not_lt.2 (Nat.le_add_left _ _))
/-- so they have the same definitions, the pipeline's among them; -/
theorem defs_same : @Cert.Kernel.defs Bits _ _ = @Cert.KernelIdeal.defs Bits _ _ := congrArg (Pipeline.defs _) bodies_same

/-- so the kernel as compiled runs as its reading does. -/
theorem frame_kernel : Cert.quiescent_Kernel := fun m ρ _ => by
  rw [show @Cert.Kernel.defs Bits _ _ = @Cert.KernelIdeal.defs Bits _ _ from defs_same]
  exact frame_any (F := Bits) m ρ
/-- The kernel over the extended reals. -/
theorem frame_kernelIdeal : Cert.quiescent_KernelIdeal := fun m ρ _ => frame_any (F := Ideal) m ρ

/-- The reference uses no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.DevSort
-- ==== Proof.Net.lean ====
/-
# The bitonic network, over any linear order

A sequence is a function on the natural numbers. A stage compares every position `i` with its partner, the
position that differs in bit `q`, and keeps the smaller value on one side and the larger on the other; `u i` says
whether the comparison runs upwards. A merge is the stages of bits `q-1, …, 0`; the network `net p` is the merges
of lengths `2, 4, …, 2^p`, each upwards where the bit after the merge's own is clear. The theorems: after `net p`
the sequence is monotone on the first `2^p` positions, and the values on them are the same as before, each as many
times. The order enters only through thresholds: a stage commutes with every monotone map, so that sortedness is
proved for sequences of truth values.
-/
module

public import Mathlib.Algebra.BigOperators.Group.Finset.Basic
public import Mathlib.Algebra.BigOperators.Intervals
public import Mathlib.Order.Lattice
public import Mathlib.Order.BooleanAlgebra.Basic
public import Mathlib.Data.Multiset.Range
public import Mathlib.Data.List.Sort
public import Mathlib.Data.Bool.Basic
public import Mathlib.Tactic.Ring
public import Mathlib.Tactic.Linarith

@[expose] public section

namespace Cert.DevSort

variable {α β : Type} [LinearOrder α] [LinearOrder β]

/-! ## The network -/

/-- Bit `q` of `i`. -/
def bit (q i : ℕ) : Bool := decide (i / 2 ^ q % 2 = 1)
/-- The position that differs from `i` in bit `q`. -/
def partner (q i : ℕ) : ℕ := if bit q i then i - 2 ^ q else i + 2 ^ q
/-- The stage of bit `q`, upwards at the positions where `u` holds. -/
def stage (u : ℕ → Bool) (q : ℕ) (v : ℕ → α) (i : ℕ) : α :=
  if (u i ^^ bit q i) then min (v i) (v (partner q i)) else max (v i) (v (partner q i))
/-- The stages of bits `q-1, …, 0`. -/
def merge (u : ℕ → Bool) : ℕ → (ℕ → α) → ℕ → α
  | 0, v => v
  | q + 1, v => merge u q (stage u q v)
/-- The merges of lengths `2, …, 2^p`. -/
def net : ℕ → (ℕ → α) → ℕ → α
  | 0, v => v
  | p + 1, v => merge (fun i => !bit (p + 1) i) (p + 1) (net p v)

/-! ## Stages and monotone maps -/

/-- A stage commutes with a monotone map of the values. -/
theorem stage_map {f : α → β} (hf : Monotone f) (u : ℕ → Bool) (q : ℕ) (v : ℕ → α) :
    (fun i => f (stage u q v i)) = stage u q (fun i => f (v i)) := by
  funext i
  unfold stage
  split
  · exact hf.map_min
  · exact hf.map_max

/-- So does a merge. -/
theorem merge_map {f : α → β} (hf : Monotone f) (u : ℕ → Bool) (q : ℕ) (v : ℕ → α) :
    (fun i => f (merge u q v i)) = merge u q (fun i => f (v i)) := by
  induction q generalizing v with
  | zero => rfl
  | succ q ih => exact (ih (stage u q v)).trans (congrArg (merge u q) (stage_map hf u q v))

/-! ## A stage on a block -/

/-- Position `i` of the block of `2^q` numbered `k` has bit `q` as `k` is odd. -/
theorem bit_block (q k i : ℕ) (hi : i < 2 ^ q) : bit q (2 ^ q * k + i) = decide (k % 2 = 1) := by
  have h : (2 ^ q * k + i) / 2 ^ q = k := by
    rw [Nat.mul_add_div (Nat.pos_of_ne_zero (by positivity)), Nat.div_eq_of_lt hi, Nat.add_zero]
  unfold bit
  rw [h]

/-- The partner of a position of an even block. -/
theorem partner_even (q k i : ℕ) (hi : i < 2 ^ q) : partner q (2 ^ q * (2 * k) + i) = 2 ^ q * (2 * k + 1) + i := by
  unfold partner
  rw [bit_block q _ i hi, if_neg (by simp), Nat.mul_add]
  omega

/-- The partner of a position of an odd block. -/
theorem partner_odd (q k i : ℕ) (hi : i < 2 ^ q) : partner q (2 ^ q * (2 * k + 1) + i) = 2 ^ q * (2 * k) + i := by
  unfold partner
  rw [bit_block q _ i hi, if_pos (by simp), Nat.mul_add]
  omega

/-- A stage on the lower half of a block. -/
theorem stage_even (u : ℕ → Bool) (q k i : ℕ) (hi : i < 2 ^ q) (v : ℕ → α) :
    stage u q v (2 ^ q * (2 * k) + i) = if u (2 ^ q * (2 * k) + i)
      then min (v (2 ^ q * (2 * k) + i)) (v (2 ^ q * (2 * k + 1) + i))
      else max (v (2 ^ q * (2 * k) + i)) (v (2 ^ q * (2 * k + 1) + i)) := by
  unfold stage
  rw [bit_block q _ i hi, partner_even q k i hi]
  simp

/-- A stage on the upper half of a block. -/
theorem stage_odd (u : ℕ → Bool) (q k i : ℕ) (hi : i < 2 ^ q) (v : ℕ → α) :
    stage u q v (2 ^ q * (2 * k + 1) + i) = if u (2 ^ q * (2 * k + 1) + i)
      then max (v (2 ^ q * (2 * k) + i)) (v (2 ^ q * (2 * k + 1) + i))
      else min (v (2 ^ q * (2 * k) + i)) (v (2 ^ q * (2 * k + 1) + i)) := by
  unfold stage
  rw [bit_block q _ i hi, partner_odd q k i hi, max_comm, min_comm]
  cases u (2 ^ q * (2 * k + 1) + i) <;> simp

/-! ## Truth values: half-cleaning -/

/-- On the first `n` positions `f` is `s` outside one interval and `!s` on it. -/
def Bitonic (f : ℕ → Bool) (n : ℕ) : Prop :=
  ∃ (s : Bool) (l h : ℕ), l ≤ h ∧ h ≤ n ∧ ∀ i < n, f i = (s ^^ decide (l ≤ i ∧ i < h))
/-- On the first `n` positions `f` is `s`. -/
def Const (s : Bool) (f : ℕ → Bool) (n : ℕ) : Prop := ∀ i < n, f i = s
/-- On the first `n` positions `f` is `!w` and from some position on `w`. -/
def Run (w : Bool) (f : ℕ → Bool) (n : ℕ) : Prop := ∃ l ≤ n, ∀ i < n, f i = (w ^^ decide (i < l))

/-- Comparing the two halves of a bitonic sequence leaves one half constant and the other bitonic. -/
theorem half_clean (f : ℕ → Bool) (m : ℕ) (hf : Bitonic f (2 * m)) :
    (Const false (fun i => f i && f (m + i)) m ∧ Bitonic (fun i => f i || f (m + i)) m) ∨
    (Const true (fun i => f i || f (m + i)) m ∧ Bitonic (fun i => f i && f (m + i)) m) := by
  obtain ⟨s, l, h, hl, hh, hf⟩ := hf
  have e1 : ∀ i < m, f i = (s ^^ decide (l ≤ i ∧ i < h)) := fun i hi => hf i (by omega)
  have e2 : ∀ i < m, f (m + i) = (s ^^ decide (l ≤ m + i ∧ m + i < h)) := fun i hi => hf _ (by omega)
  have key : ∀ (o : Bool → Bool → Bool) (s' : Bool) (l' h' : ℕ), l' ≤ h' → h' ≤ m →
      (∀ i < m, o (s ^^ decide (l ≤ i ∧ i < h)) (s ^^ decide (l ≤ m + i ∧ m + i < h)) = (s' ^^ decide (l' ≤ i ∧ i < h'))) →
      Bitonic (fun i => o (f i) (f (m + i))) m := fun o s' l' h' a b c =>
    ⟨s', l', h', a, b, fun i hi => by
      show o (f i) (f (m + i)) = _
      rw [e1 i hi, e2 i hi]; exact c i hi⟩
  have keyC : ∀ (o : Bool → Bool → Bool) (s' : Bool),
      (∀ i < m, o (s ^^ decide (l ≤ i ∧ i < h)) (s ^^ decide (l ≤ m + i ∧ m + i < h)) = s') →
      Const s' (fun i => o (f i) (f (m + i))) m := fun o s' c i hi => by
    show o (f i) (f (m + i)) = _
    rw [e1 i hi, e2 i hi]; exact c i hi
  cases s
  · by_cases hw : h - l ≤ m
    · refine Or.inl ⟨keyC (· && ·) false fun i hi => ?_, ?_⟩
      · rw [Bool.eq_iff_iff]; simp; omega
      · by_cases h1 : h ≤ m
        · exact key (· || ·) false l h hl h1 fun i hi => by rw [Bool.eq_iff_iff]; simp; omega
        · by_cases h2 : m ≤ l
          · exact key (· || ·) false (l - m) (h - m) (by omega) (by omega) fun i hi => by rw [Bool.eq_iff_iff]; simp; omega
          · exact key (· || ·) true (h - m) l (by omega) (by omega) fun i hi => by rw [Bool.eq_iff_iff]; simp; omega
    · refine Or.inr ⟨keyC (· || ·) true fun i hi => ?_, ?_⟩
      · rw [Bool.eq_iff_iff]; simp; omega
      · exact key (· && ·) false l (h - m) (by omega) (by omega) fun i hi => by rw [Bool.eq_iff_iff]; simp; omega
  · by_cases hw : h - l ≤ m
    · refine Or.inr ⟨keyC (· || ·) true fun i hi => ?_, ?_⟩
      · rw [Bool.eq_iff_iff]; simp; omega
      · by_cases h1 : h ≤ m
        · exact key (· && ·) true l h hl h1 fun i hi => by rw [Bool.eq_iff_iff]; simp; omega
        · by_cases h2 : m ≤ l
          · exact key (· && ·) true (l - m) (h - m) (by omega) (by omega) fun i hi => by rw [Bool.eq_iff_iff]; simp; omega
          · exact key (· && ·) false (h - m) l (by omega) (by omega) fun i hi => by rw [Bool.eq_iff_iff]; simp; omega
    · refine Or.inl ⟨keyC (· && ·) false fun i hi => ?_, ?_⟩
      · rw [Bool.eq_iff_iff]; simp; omega
      · exact key (· || ·) true l (h - m) (by omega) (by omega) fun i hi => by rw [Bool.eq_iff_iff]; simp; omega

/-! ## Merging -/

/-- Half `e` (`0` or `1`) of block `k` after a stage, for a direction that is `w` on the block. -/
theorem stage_halves (u : ℕ → Bool) (w : Bool) (q k : ℕ) (b : ℕ → Bool) (hu : ∀ i < 2 ^ (q + 1), u (2 ^ (q + 1) * k + i) = w) :
    ∀ i < 2 ^ q,
      stage u q b (2 ^ q * (2 * k) + i) =
        (if w then b (2 ^ q * (2 * k) + i) && b (2 ^ q * (2 * k + 1) + i) else b (2 ^ q * (2 * k) + i) || b (2 ^ q * (2 * k + 1) + i)) ∧
      stage u q b (2 ^ q * (2 * k + 1) + i) =
        (if w then b (2 ^ q * (2 * k) + i) || b (2 ^ q * (2 * k + 1) + i) else b (2 ^ q * (2 * k) + i) && b (2 ^ q * (2 * k + 1) + i)) := by
  intro i hi
  have e0 : u (2 ^ q * (2 * k) + i) = w := by
    rw [← hu i (by rw [pow_succ]; omega)]; congr 1; rw [pow_succ]; ring
  have e1 : u (2 ^ q * (2 * k + 1) + i) = w := by
    rw [← hu (2 ^ q + i) (by rw [pow_succ]; omega)]; congr 1; rw [pow_succ]; ring
  rw [stage_even u q k i hi, stage_odd u q k i hi, e0, e1]
  exact ⟨rfl, rfl⟩

/-- The direction is constant on the halves of a block. -/
theorem dir_half (u : ℕ → Bool) (w : Bool) (q k e : ℕ) (he : e < 2) (hu : ∀ i < 2 ^ (q + 1), u (2 ^ (q + 1) * k + i) = w) :
    ∀ i < 2 ^ q, u (2 ^ q * (2 * k + e) + i) = w := by
  intro i hi
  have he' : e = 0 ∨ e = 1 := by omega
  rw [← hu (2 ^ q * e + i) (by rcases he' with rfl | rfl <;> rw [pow_succ] <;> omega)]
  congr 1; rw [pow_succ]; ring

/-- A merge leaves a constant block as it is. -/
theorem merge_const (u : ℕ → Bool) (w s : Bool) (q k : ℕ) (b : ℕ → Bool) (hu : ∀ i < 2 ^ q, u (2 ^ q * k + i) = w)
    (hb : Const s (fun i => b (2 ^ q * k + i)) (2 ^ q)) : Const s (fun i => merge u q b (2 ^ q * k + i)) (2 ^ q) := by
  induction q generalizing k b with
  | zero => exact hb
  | succ q ih =>
    have H := stage_halves u w q k b hu
    have b0 : ∀ i < 2 ^ q, b (2 ^ q * (2 * k) + i) = s := fun i hi => by
      rw [← hb i (by rw [pow_succ]; omega)]; show _ = b _; congr 1; rw [pow_succ]; ring
    have b1 : ∀ i < 2 ^ q, b (2 ^ q * (2 * k + 1) + i) = s := fun i hi => by
      rw [← hb (2 ^ q + i) (by rw [pow_succ]; omega)]; show _ = b _; congr 1; rw [pow_succ]; ring
    have r0 := ih (2 * k) (stage u q b) (dir_half u w q k 0 (by omega) hu) (fun i hi => by
      show stage u q b _ = s
      rw [(H i hi).1, b0 i hi, b1 i hi]; cases w <;> cases s <;> rfl)
    have r1 := ih (2 * k + 1) (stage u q b) (dir_half u w q k 1 (by omega) hu) (fun i hi => by
      show stage u q b _ = s
      rw [(H i hi).2, b0 i hi, b1 i hi]; cases w <;> cases s <;> rfl)
    intro i hi
    rw [pow_succ] at hi
    by_cases h : i < 2 ^ q
    · rw [← r0 i h]; show merge u q (stage u q b) _ = merge u q (stage u q b) _; congr 1; rw [pow_succ]; ring
    · rw [← r1 (i - 2 ^ q) (by omega)]; show merge u q (stage u q b) _ = merge u q (stage u q b) _
      congr 1; rw [pow_succ, Nat.mul_add]
      have : 2 ^ q * 2 * k = 2 ^ q * (2 * k) := by ring
      omega

/-- A bitonic block of truth values comes out of a merge as a run, in the merge's direction. -/
theorem merge_run (u : ℕ → Bool) (w : Bool) (q k : ℕ) (b : ℕ → Bool) (hu : ∀ i < 2 ^ q, u (2 ^ q * k + i) = w)
    (hb : Bitonic (fun i => b (2 ^ q * k + i)) (2 ^ q)) : Run w (fun i => merge u q b (2 ^ q * k + i)) (2 ^ q) := by
  induction q generalizing k b with
  | zero =>
    refine ⟨if b k = w then 0 else 1, by split <;> simp, fun i hi => ?_⟩
    have : i = 0 := by simpa using hi
    subst this
    show b _ = _
    simp only [pow_zero, one_mul, add_zero]
    split
    · next h => simp [h]
    · next h => revert h; cases b k <;> cases w <;> simp
  | succ q ih =>
    have H := stage_halves u w q k b hu
    have e0 : ∀ i, 2 ^ (q + 1) * k + i = 2 ^ q * (2 * k) + i := fun i => by rw [pow_succ]; ring
    have e1 : ∀ i, 2 ^ (q + 1) * k + (2 ^ q + i) = 2 ^ q * (2 * k + 1) + i := fun i => by rw [pow_succ]; ring
    have hc := half_clean (fun i => b (2 ^ (q + 1) * k + i)) (2 ^ q) (by rw [show 2 * 2 ^ q = 2 ^ (q + 1) by rw [pow_succ, mul_comm]]; exact hb)
    simp only [e1] at hc
    simp only [e0] at hc
    have d0 := dir_half u w q k 0 (by omega) hu
    have d1 := dir_half u w q k 1 (by omega) hu
    -- the two ends of the block: one constant, the other a run
    have fin : (Const (!w) (fun i => merge u (q + 1) b (2 ^ q * (2 * k) + i)) (2 ^ q) ∧
          Run w (fun i => merge u (q + 1) b (2 ^ q * (2 * k + 1) + i)) (2 ^ q)) ∨
        (Const w (fun i => merge u (q + 1) b (2 ^ q * (2 * k + 1) + i)) (2 ^ q) ∧
          Run w (fun i => merge u (q + 1) b (2 ^ q * (2 * k) + i)) (2 ^ q)) := by
      have cst : ∀ (s : Bool) (e : ℕ) (f : ℕ → Bool), (∀ i < 2 ^ q, u (2 ^ q * (2 * k + e) + i) = w) →
          (∀ i < 2 ^ q, stage u q b (2 ^ q * (2 * k + e) + i) = f i) → Const s f (2 ^ q) →
          Const s (fun i => merge u (q + 1) b (2 ^ q * (2 * k + e) + i)) (2 ^ q) := fun s e f hd hs hf =>
        merge_const u w s q _ _ hd fun i hi => (hs i hi).trans (hf i hi)
      have run : ∀ (e : ℕ) (f : ℕ → Bool), (∀ i < 2 ^ q, u (2 ^ q * (2 * k + e) + i) = w) →
          (∀ i < 2 ^ q, stage u q b (2 ^ q * (2 * k + e) + i) = f i) → Bitonic f (2 ^ q) →
          Run w (fun i => merge u (q + 1) b (2 ^ q * (2 * k + e) + i)) (2 ^ q) := fun e f hd hs hf =>
        ih _ _ hd (by
          obtain ⟨s, l, h, a, c, hf⟩ := hf
          exact ⟨s, l, h, a, c, fun i hi => (hs i hi).trans (hf i hi)⟩)
      cases w
      · rcases hc with ⟨hA, hB⟩ | ⟨hA, hB⟩
        · exact Or.inr ⟨cst false 1 _ d1 (fun i hi => (H i hi).2) hA, run 0 _ d0 (fun i hi => (H i hi).1) hB⟩
        · exact Or.inl ⟨cst true 0 _ d0 (fun i hi => (H i hi).1) hA, run 1 _ d1 (fun i hi => (H i hi).2) hB⟩
      · rcases hc with ⟨hA, hB⟩ | ⟨hA, hB⟩
        · exact Or.inl ⟨cst false 0 _ d0 (fun i hi => (H i hi).1) hA, run 1 _ d1 (fun i hi => (H i hi).2) hB⟩
        · exact Or.inr ⟨cst true 1 _ d1 (fun i hi => (H i hi).2) hA, run 0 _ d0 (fun i hi => (H i hi).1) hB⟩
    have hp : 2 ^ (q + 1) = 2 ^ q + 2 ^ q := by rw [pow_succ]; ring
    rcases fin with ⟨hC, l, hl, hR⟩ | ⟨hC, l, hl, hR⟩
    · refine ⟨2 ^ q + l, by omega, fun i hi => ?_⟩
      by_cases h : i < 2 ^ q
      · have := hC i h
        simp only [e0] at this ⊢
        rw [this, decide_eq_true (show i < 2 ^ q + l by omega)]; simp
      · obtain ⟨j, rfl⟩ : ∃ j, i = 2 ^ q + j := ⟨i - 2 ^ q, by omega⟩
        have := hR j (by omega)
        simp only [e1] at this ⊢
        rw [this]; congr 1; simp
    · refine ⟨l, by omega, fun i hi => ?_⟩
      by_cases h : i < 2 ^ q
      · have := hR i h
        simp only [e0] at this ⊢
        exact this
      · obtain ⟨j, rfl⟩ : ∃ j, i = 2 ^ q + j := ⟨i - 2 ^ q, by omega⟩
        have := hC j (by omega)
        simp only [e1] at this ⊢
        rw [this, decide_eq_false (by omega)]; simp

/-- Two neighbouring runs, the first upwards and the second downwards, are bitonic together. -/
theorem bitonic_of_runs (f : ℕ → Bool) (m : ℕ) (h0 : Run true f m) (h1 : Run false (fun i => f (m + i)) m) : Bitonic f (2 * m) := by
  obtain ⟨l, hl, h0⟩ := h0
  obtain ⟨h, hh, h1⟩ := h1
  refine ⟨false, l, m + h, by omega, by omega, fun i hi => ?_⟩
  by_cases c : i < m
  · rw [h0 i c, Bool.eq_iff_iff]; simp; omega
  · obtain ⟨j, rfl⟩ : ∃ j, i = m + j := ⟨i - m, by omega⟩
    rw [show f (m + j) = _ from h1 j (by omega), Bool.eq_iff_iff]; simp; omega

/-- After `net p` every block of `2^p` truth values is a run: upwards in the even blocks, downwards in the odd ones. -/
theorem net_run (p k : ℕ) (b : ℕ → Bool) : Run (decide (k % 2 = 0)) (fun i => net p b (2 ^ p * k + i)) (2 ^ p) := by
  induction p generalizing k with
  | zero =>
    refine ⟨if b k = decide (k % 2 = 0) then 0 else 1, by split <;> simp, fun i hi => ?_⟩
    have : i = 0 := by simpa using hi
    subst this
    show b _ = _
    simp only [pow_zero, one_mul, add_zero]
    split
    · next h => simp [h]
    · next h => revert h; cases b k <;> cases decide (k % 2 = 0) <;> simp
  | succ p ih =>
    refine merge_run _ _ (p + 1) k _ (fun i hi => ?_) ?_
    · rw [bit_block (p + 1) k i hi, Bool.eq_iff_iff]; simp
    · have h0 := ih (2 * k)
      have h1 := ih (2 * k + 1)
      rw [decide_eq_true (by omega)] at h0
      rw [decide_eq_false (by omega)] at h1
      have e0 : ∀ i, 2 ^ (p + 1) * k + i = 2 ^ p * (2 * k) + i := fun i => by rw [pow_succ]; ring
      have e1 : ∀ i, 2 ^ (p + 1) * k + (2 ^ p + i) = 2 ^ p * (2 * k + 1) + i := fun i => by rw [pow_succ]; ring
      rw [show 2 ^ (p + 1) = 2 * 2 ^ p by rw [pow_succ, mul_comm]] at e0 e1 ⊢
      refine bitonic_of_runs _ _ ?_ ?_
      · simp only [e0]; exact h0
      · simp only [e1]; exact h1

/-- The network commutes with monotone maps. -/
theorem net_map {f : α → β} (hf : Monotone f) (p : ℕ) (v : ℕ → α) :
    (fun i => f (net p v i)) = net p (fun i => f (v i)) := by
  induction p with
  | zero => rfl
  | succ p ih => exact (merge_map hf _ _ _).trans (congrArg (merge _ (p + 1)) ih)

/-- After `net p` the first `2^p` values are in order. -/
theorem net_sorted (p : ℕ) (v : ℕ → α) (i j : ℕ) (hij : i ≤ j) (hj : j < 2 ^ p) : net p v i ≤ net p v j := by
  have hm : Monotone (fun x : α => decide (net p v i ≤ x)) := fun x y h => by
    by_cases c : net p v i ≤ x
    · simp [c, c.trans h]
    · simp [c]
  have e := net_map hm p v
  obtain ⟨l, -, hr⟩ := net_run p 0 (fun k => decide (net p v i ≤ v k))
  rw [← e] at hr
  have hi := hr i (by omega)
  have hj := hr j hj
  have z : ∀ r, 2 ^ p * 0 + r = r := fun r => by omega
  simp only [z, le_refl, decide_true, Nat.zero_mod] at hi hj
  have hl : ¬ i < l := by simpa using hi.symm
  rw [decide_eq_false (show ¬ j < l by omega)] at hj
  simpa using hj

/-! ## The values stay the same -/

/-- A stage does not change what the values on whole blocks add up to, whatever is added up. -/
theorem stage_sum {M : Type} [AddCommMonoid M] (φ : α → M) (u : ℕ → Bool) (q K : ℕ) (v : ℕ → α)
    (hu : ∀ k i, i < 2 ^ q → u (2 ^ q * (2 * k) + i) = u (2 ^ q * (2 * k + 1) + i)) :
    ∑ i ∈ Finset.range (2 ^ (q + 1) * K), φ (stage u q v i) = ∑ i ∈ Finset.range (2 ^ (q + 1) * K), φ (v i) := by
  induction K with
  | zero => rfl
  | succ K ih =>
    have e : 2 ^ (q + 1) * (K + 1) = 2 ^ (q + 1) * K + (2 ^ q + 2 ^ q) := by rw [pow_succ]; ring
    rw [e, Finset.sum_range_add, Finset.sum_range_add _ (2 ^ (q + 1) * K), ih]
    congr 1
    rw [Finset.sum_range_add, Finset.sum_range_add _ (2 ^ q), ← Finset.sum_add_distrib, ← Finset.sum_add_distrib]
    refine Finset.sum_congr rfl fun i hi => ?_
    have hi := Finset.mem_range.mp hi
    have a0 : 2 ^ (q + 1) * K + i = 2 ^ q * (2 * K) + i := by rw [pow_succ]; ring
    have a1 : 2 ^ (q + 1) * K + (2 ^ q + i) = 2 ^ q * (2 * K + 1) + i := by rw [pow_succ]; ring
    rw [a0, a1, stage_even u q K i hi, stage_odd u q K i hi, ← hu K i hi]
    rcases le_total (v (2 ^ q * (2 * K) + i)) (v (2 ^ q * (2 * K + 1) + i)) with h | h <;>
      cases u (2 ^ q * (2 * K) + i) <;>
      simp only [min_eq_left h, max_eq_right h, min_eq_right h, max_eq_left h, if_true, Bool.false_eq_true, if_false] <;>
      first | rfl | exact add_comm _ _

/-- Nor does a merge, in a direction that is constant on its blocks. -/
theorem merge_sum {M : Type} [AddCommMonoid M] (φ : α → M) (u : ℕ → Bool) (q K : ℕ) (v : ℕ → α)
    (hu : ∀ r < q, ∀ k i, i < 2 ^ r → u (2 ^ r * (2 * k) + i) = u (2 ^ r * (2 * k + 1) + i)) :
    ∑ i ∈ Finset.range (2 ^ q * K), φ (merge u q v i) = ∑ i ∈ Finset.range (2 ^ q * K), φ (v i) := by
  induction q generalizing v K with
  | zero => rfl
  | succ q ih =>
    have e : 2 ^ (q + 1) * K = 2 ^ q * (2 * K) := by rw [pow_succ]; ring
    have := ih (2 * K) (stage u q v) (fun r hr => hu r (by omega))
    rw [← e] at this
    exact this.trans (stage_sum φ u q K v (hu q (by omega)))

/-- A higher bit is the same on both halves of a lower block. -/
theorem bit_pair (p r k i : ℕ) (hr : r < p) (hi : i < 2 ^ r) : bit p (2 ^ r * (2 * k) + i) = bit p (2 ^ r * (2 * k + 1) + i) := by
  obtain ⟨d, rfl⟩ : ∃ d, p = r + 1 + d := ⟨p - (r + 1), by omega⟩
  unfold bit
  have h : ∀ e < 2, (2 ^ r * (2 * k + e) + i) / 2 ^ (r + 1 + d) = k / 2 ^ d := fun e he => by
    rw [pow_add, pow_succ, ← Nat.div_div_eq_div_mul, ← Nat.div_div_eq_div_mul, Nat.mul_add_div (by positivity),
      Nat.div_eq_of_lt hi, Nat.add_zero]
    congr 1; omega
  rw [h 1 (by omega)]
  have h0 := h 0 (by omega)
  rw [Nat.add_zero] at h0
  rw [h0]

/-- The network does not change what the first `2^p * K` values add up to. -/
theorem net_sum {M : Type} [AddCommMonoid M] (φ : α → M) (p K : ℕ) (v : ℕ → α) :
    ∑ i ∈ Finset.range (2 ^ p * K), φ (net p v i) = ∑ i ∈ Finset.range (2 ^ p * K), φ (v i) := by
  induction p generalizing K with
  | zero => rfl
  | succ p ih =>
    refine (merge_sum φ _ (p + 1) K _ fun r hr k i hi => ?_).trans ?_
    · rw [bit_pair (p + 1) r k i hr hi]
    · have e : 2 ^ (p + 1) * K = 2 ^ p * (2 * K) := by rw [pow_succ]; ring
      rw [e]; exact ih (2 * K)

/-! ## One sorted arrangement -/

/-- Two sequences in order with the same values, each as many times, are equal. -/
theorem sorted_unique (n : ℕ) (f g : ℕ → α) (hf : ∀ i j, i ≤ j → j < n → f i ≤ f j) (hg : ∀ i j, i ≤ j → j < n → g i ≤ g j)
    (h : (Multiset.range n).map f = (Multiset.range n).map g) : ∀ i < n, f i = g i := by
  have hs : ∀ k : ℕ → α, (∀ i j, i ≤ j → j < n → k i ≤ k j) → ((List.range n).map k).Pairwise (· ≤ ·) := fun k hk => by
    rw [List.pairwise_map]
    refine List.Pairwise.imp_of_mem (R := (· < ·)) ?_ List.pairwise_lt_range
    intro a b _ hb hab
    exact hk a b hab.le (List.mem_range.mp hb)
  have hp : ((List.range n).map f).Perm ((List.range n).map g) := Multiset.coe_eq_coe.mp h
  have he : (List.range n).map f = (List.range n).map g :=
    hp.eq_of_pairwise (fun a b _ _ h1 h2 => le_antisymm h1 h2) (hs f hf) (hs g hg)
  intro i hi
  exact List.map_inj_left.mp he i (List.mem_range.mpr hi)

/-- The network's values are the sequence's, as a multiset. -/
theorem net_values (p : ℕ) (v : ℕ → α) : (Multiset.range (2 ^ p)).map (net p v) = (Multiset.range (2 ^ p)).map v := by
  have h := net_sum (fun a : α => ({a} : Multiset α)) p 1 v
  rw [Nat.mul_one] at h
  have e : ∀ w : ℕ → α, ∑ i ∈ Finset.range (2 ^ p), ({w i} : Multiset α) = (Multiset.range (2 ^ p)).map w := fun w => by
    rw [Finset.sum_eq_multiset_sum]
    exact (congrArg Multiset.sum (Multiset.map_map (fun a : α => ({a} : Multiset α)) w _).symm).trans (Multiset.sum_map_singleton _)
  rw [e, e] at h
  exact h

/-- Whatever is in order and has the same first `2^p` values is what the network gives. -/
theorem net_unique (p : ℕ) (v g : ℕ → α) (hg : ∀ i j, i ≤ j → j < 2 ^ p → g i ≤ g j)
    (h : (Multiset.range (2 ^ p)).map g = (Multiset.range (2 ^ p)).map v) : ∀ i < 2 ^ p, net p v i = g i :=
  sorted_unique _ _ _ (net_sorted p v) hg ((net_values p v).trans h.symm)

end Cert.DevSort
-- ==== Proof.Stage.lean ====
/-
# One comparison of the kernel as a stage of the network

The kernel keeps a sequence down the rows of an array of `n` rows, or, for the two merges, down the rows of the left
half of the lanes and then down the rows of the right half. A comparison of distance `d` pairs row `i` with the row
that differs from it in `d`: the partner rows come from cutting the array in pieces of `d` rows and exchanging
neighbouring pieces. This file names the pieces of one comparison (`swap`, the masks, `cmp`) and reads each as what it
does to the sequence of a column (`col`): the stage of the network of `Net.lean`.
-/
module

public import proofs.«01_k».proof.Proof.Net
public import Idealize.ShloMosaic.Lib.ValueIdx
public import Idealize.ShloMosaic.Lib.ValueLayout
public import Idealize.ShloMosaic.Lib.WordCmp
public import Idealize.ShloMosaic.Lib.Pipeline.Value
public import Mathlib.Data.Nat.Bitwise
public import Mathlib.Tactic.FinCases

@[expose] public section

noncomputable section

namespace Cert.DevSort

open Idealize.ShloMosaic Idealize.ShloMosaic.ValueIdx

variable {F : FTy → Type} [FloatOps F] {α : Type}

/-- The shape of an array of two axes. -/
abbrev m2 (n c : ℕ) : Shape := ⟨2, ![n, c]⟩
/-- The shape of an array of four axes. -/
abbrev m4 (g e d c : ℕ) : Shape := ⟨4, ![g, e, d, c]⟩

/-! ## The shapes of an exchange fit together -/

/-- Cutting `g * 2 * d` rows in pieces. -/
theorem casts_cut {n c g d : ℕ} (h : n = g * 2 * d) : (m2 n c).ShapeCasts (m4 g 2 d c) := by
  subst h
  simp [Shape.ShapeCasts, Shape.numel, Fin.prod_univ_succ, Nat.mul_assoc]

/-- And joining them. -/
theorem casts_join {n c g d : ℕ} (h : n = g * 2 * d) : (m4 g 2 d c).ShapeCasts (m2 n c) := (casts_cut h).symm

/-- The piece `o` of each pair. -/
theorem slices_piece (g d c o : ℕ) (ho : o < 2) : (m4 g 2 d c).Slices ![0, o, 0, 0] (m4 g 1 d c) :=
  ⟨rfl, fun a => by fin_cases a <;> simp <;> omega⟩

/-- Two pieces make a pair. -/
theorem concatenates_pair (g d c : ℕ) : Shape.Concatenates [m4 g 1 d c, m4 g 1 d c] (m4 g 2 d c) 1 := by
  refine ⟨by simp, fun s hs => ?_, by simp⟩
  have : s = m4 g 1 d c := by simpa using hs
  subst this
  exact ⟨rfl, fun b hb => by fin_cases b <;> simp at hb ⊢⟩

/-- A column broadcasts along the lanes. -/
theorem broadcasts_lanes (n c : ℕ) : (m2 n 1).Broadcasts (m2 n c) :=
  ⟨le_rfl, fun a => by fin_cases a <;> simp⟩

/-! ## The exchange -/

/-- The rows exchanged with the rows that differ from them in `d`. -/
def swap (n c g d : ℕ) (h : n = g * 2 * d) (v : (m2 n c).Idx → α) : (m2 n c).Idx → α :=
  shapeCast (m2 n c) (concatenate (m4 g 2 d c) 1
    [⟨m4 g 1 d c, extractStridedSlice (m4 g 1 d c) ![0, 1, 0, 0] (shapeCast (m4 g 2 d c) v (casts_cut h)) (slices_piece g d c 1 (by omega))⟩,
     ⟨m4 g 1 d c, extractStridedSlice (m4 g 1 d c) ![0, 0, 0, 0] (shapeCast (m4 g 2 d c) v (casts_cut h)) (slices_piece g d c 0 (by omega))⟩]
    (concatenates_pair g d c)) (casts_join h)

/-- The exchange at an index: row `(a, b, e)` in pieces of `d` rows holds what row `(a, 1 - b, e)` held. -/
theorem swap_apply (n c g d : ℕ) (h : n = g * 2 * d) (v : (m2 n c).Idx → α) (a b e : ℕ) (ha : a < g) (hb : b < 2) (he : e < d) (j : Fin c)
    (i k : Fin n) (hi : i.val = (a * 2 + b) * d + e) (hk : k.val = (a * 2 + (1 - b)) * d + e) : swap n c g d h v (ix2 i j) = v (ix2 k j) := by
  have cut : ∀ b' (hb' : b' < 2) (r : Fin n), r.val = (a * 2 + b') * d + e →
      shapeCast (m4 g 2 d c) v (casts_cut h) (ix4 (⟨a, ha⟩ : Fin g) (⟨b', hb'⟩ : Fin 2) (⟨e, he⟩ : Fin d) j) = v (ix2 r j) := fun b' hb' r hr =>
    shapeCast_apply v _ _ _ (by
      rw [Shape.rowMajor_val_four, Shape.rowMajor_val_two]
      show r.val * c + j.val = ((a * 2 + b') * d + e) * c + j.val
      rw [hr])
  unfold swap
  refine (shapeCast_apply _ _ _ (ix4 (⟨a, ha⟩ : Fin g) (⟨b, hb⟩ : Fin 2) (⟨e, he⟩ : Fin d) j) (by
      rw [Shape.rowMajor_val_four, Shape.rowMajor_val_two]
      show ((a * 2 + b) * d + e) * c + j.val = i.val * c + j.val
      rw [hi])).trans ?_
  obtain rfl | rfl : b = 0 ∨ b = 1 := by omega
  · refine (concatenate_pair_apply_left (t := m4 g 2 d c) (s₁ := m4 g 1 d c) (s₂ := m4 g 1 d c) 1 _ _ (concatenates_pair g d c) _ rfl
      (ix4 (⟨a, ha⟩ : Fin g) (0 : Fin 1) (⟨e, he⟩ : Fin d) j) ?_).trans ?_
    · intro b
      match b with
      | ⟨0, _⟩ => rfl
      | ⟨1, _⟩ => rfl
      | ⟨2, _⟩ => rfl
      | ⟨3, _⟩ => rfl
    exact (slice4_axis1_apply 1 _ _ _ _ _ _ (⟨1, by omega⟩ : Fin 2) rfl).trans (cut 1 (by omega) k hk)
  · refine (concatenate_pair_apply_right (t := m4 g 2 d c) (s₁ := m4 g 1 d c) (s₂ := m4 g 1 d c) 1 _ _ (concatenates_pair g d c) _ rfl rfl
      (ix4 (⟨a, ha⟩ : Fin g) (0 : Fin 1) (⟨e, he⟩ : Fin d) j) ?_ rfl).trans ?_
    · intro b hb
      match b with
      | ⟨0, _⟩ => rfl
      | ⟨1, _⟩ => exact absurd rfl hb
      | ⟨2, _⟩ => rfl
      | ⟨3, _⟩ => rfl
    exact (slice4_axis1_apply 0 _ _ _ _ _ _ (⟨0, by omega⟩ : Fin 2) rfl).trans (cut 0 (by omega) k hk)

/-! ## Sequences in an array -/

/-- The sequence that goes down the rows of lane `f 0`, then down the rows of lane `f 1`, and so on. -/
def col (n c : ℕ) (hn : 0 < n) (f : ℕ → Fin c) (v : (m2 n c).Idx → α) (i : ℕ) : α := v (ix2 ⟨i % n, Nat.mod_lt _ hn⟩ (f (i / n)))

/-- The exchange gives every position its partner's value. -/
theorem col_swap (n c g q : ℕ) (hn : 0 < n) (h : n = g * 2 * 2 ^ q) (f : ℕ → Fin c) (v : (m2 n c).Idx → α) (i : ℕ) :
    col n c hn f (swap n c g (2 ^ q) h v) i = col n c hn f v (partner q i) := by
  have hp : 0 < 2 ^ q := by positivity
  -- the position as block of rows `x`, pair `a` in it, half `b`, row `e` in the half
  obtain ⟨k, e, he, rfl⟩ : ∃ k e, e < 2 ^ q ∧ i = 2 ^ q * k + e := ⟨i / 2 ^ q, i % 2 ^ q, Nat.mod_lt _ hp, (Nat.div_add_mod i _).symm⟩
  obtain ⟨m, b, hb, rfl⟩ : ∃ m b, b < 2 ∧ k = 2 * m + b := ⟨k / 2, k % 2, by omega, by omega⟩
  have hg : 0 < g := Nat.pos_of_ne_zero fun e => by subst e; omega
  obtain ⟨x, a, ha, rfl⟩ : ∃ x a, a < g ∧ m = g * x + a := ⟨m / g, m % g, Nat.mod_lt _ hg, (Nat.div_add_mod m _).symm⟩
  have pos : ∀ b' < 2, 2 ^ q * (2 * (g * x + a) + b') + e = n * x + ((a * 2 + b') * 2 ^ q + e) := fun b' _ => by rw [h]; ring
  have lt : ∀ b' < 2, (a * 2 + b') * 2 ^ q + e < n := fun b' hb' => by
    have h1 : (a * 2 + b' + 1) * 2 ^ q ≤ (g * 2) * 2 ^ q := Nat.mul_le_mul_right _ (by omega)
    rw [h]
    rw [Nat.add_mul _ 1, Nat.one_mul] at h1
    omega
  have hpart : partner q (2 ^ q * (2 * (g * x + a) + b) + e) = 2 ^ q * (2 * (g * x + a) + (1 - b)) + e := by
    obtain rfl | rfl : b = 0 ∨ b = 1 := by omega
    · exact partner_even q _ e he
    · exact partner_odd q _ e he
  rw [hpart]
  unfold col
  have hm : ∀ b' < 2, (2 ^ q * (2 * (g * x + a) + b') + e) % n = (a * 2 + b') * 2 ^ q + e ∧ (2 ^ q * (2 * (g * x + a) + b') + e) / n = x := fun b' hb' => by
    rw [pos b' hb', Nat.mul_add_mod, Nat.mod_eq_of_lt (lt b' hb'), Nat.mul_add_div hn, Nat.div_eq_of_lt (lt b' hb')]
    exact ⟨rfl, by omega⟩
  refine (swap_apply n c g (2 ^ q) h v a b e ha hb he _ _ ⟨(a * 2 + (1 - b)) * 2 ^ q + e, lt _ (by omega)⟩ (hm b hb).1 rfl).trans ?_
  congr 2
  · exact Fin.ext (hm (1 - b) (by omega)).1.symm
  · rw [(hm b hb).2, (hm (1 - b) (by omega)).2]

/-! ## The comparison -/

/-- A choice on a decided bit. -/
theorem select_word (b : Bool) (x y : α) : Scalar.select (BitVec.ofBool b) x y = if b then x else y := by cases b <;> rfl

/-- A mask of a row, along the lanes. -/
def rowMask (n c : ℕ) (b : IVec (m2 n 1) 1) : IVec (m2 n c) 1 :=
  broadcastTo (m2 n c) (shapeCast (m2 n 1) b rfl) (broadcasts_lanes n c)
/-- Whether a row's number has the bits of `k` clear. -/
def clear (n : ℕ) (w : IVec (m2 n 1) 32) (k : BitVec 32) : IVec (m2 n 1) 1 :=
  cmpi .eq (andi w (broadcast (m2 n 1) k)) (broadcast (m2 n 1) 0#32)
/-- Two bits agree. -/
def same (s : Shape) (a b : IVec s 1) : IVec s 1 := xori (xori a b) (constantI s 1 1#1)
/-- Each row with the row at distance `d`: the smaller of the two where the mask holds, otherwise the larger. -/
def cmp (n c g d : ℕ) (h : n = g * 2 * d) (m : IVec (m2 n c) 1) (v : FVec F (m2 n c) .bf16) : FVec F (m2 n c) .bf16 :=
  select m (minimumf v (swap n c g d h v)) (maximumf v (swap n c g d h v))

/-- A mask of a row at an index. -/
theorem rowMask_apply (n c : ℕ) (b : IVec (m2 n 1) 1) (i : Fin n) (j : Fin c) : rowMask n c b (ix2 i j) = b (ix2 i (0 : Fin 1)) := by
  unfold rowMask
  refine (broadcastTo_apply _ _ _ (ix2 i (0 : Fin 1)) fun a => ?_).trans (shapeCast_apply _ _ _ _ rfl)
  match a with
  | ⟨0, _⟩ =>
    show i.val = if n = 1 then 0 else i.val
    split
    · have := i.isLt; omega
    · rfl
  | ⟨1, _⟩ => rfl

/-- Whether bit `p` of a row's number is clear. -/
theorem clear_apply (n p : ℕ) (hn : n ≤ 2 ^ 32) (hp : p < 32) (w : IVec (m2 n 1) 32) (hw : ∀ i, w i = BitVec.ofNat 32 (i 0).val) (i : Fin n) :
    clear n w (BitVec.ofNat 32 (2 ^ p)) (ix2 i (0 : Fin 1)) = BitVec.ofBool (!bit p i.val) := by
  show IntOp.cmpi .eq (w (ix2 i (0 : Fin 1)) &&& BitVec.ofNat 32 (2 ^ p)) 0#32 = _
  rw [hw]
  show BitVec.ofBool (BitVec.ofNat 32 i.val &&& BitVec.ofNat 32 (2 ^ p) == 0#32) = _
  congr 1
  rw [Bool.eq_iff_iff]
  have hi := i.isLt
  have h1 : 2 ^ p < 2 ^ 32 := Nat.pow_lt_pow_right (by omega) hp
  have e : (BitVec.ofNat 32 i.val &&& BitVec.ofNat 32 (2 ^ p)).toNat = i.val &&& 2 ^ p := by
    rw [BitVec.toNat_and, BitVec.toNat_ofNat, BitVec.toNat_ofNat, Nat.mod_eq_of_lt (by omega), Nat.mod_eq_of_lt h1]
  have hb : bit p i.val = i.val.testBit p := by
    rw [Nat.testBit_eq_decide_div_mod_eq]; rfl
  rw [hb, beq_iff_eq, ← BitVec.toNat_inj, e, Nat.and_two_pow]
  cases h : i.val.testBit p <;> simp

/-- Agreement of two bits at an index. -/
theorem same_apply (s : Shape) (a b : IVec s 1) (i : s.Idx) (x y : Bool) (hx : a i = BitVec.ofBool x) (hy : b i = BitVec.ofBool y) :
    same s a b i = BitVec.ofBool (x == y) := by
  show (a i ^^^ b i) ^^^ 1#1 = _
  rw [hx, hy]
  cases x <;> cases y <;> rfl

/-- The sequence's positions have the rows' low bits. -/
theorem bit_mod (n p i : ℕ) (hp : 2 ^ (p + 1) ∣ n) : bit p (i % n) = bit p i := by
  obtain ⟨k, rfl⟩ := hp
  have hpp : 0 < 2 ^ p := by positivity
  unfold bit
  have e : 2 ^ (p + 1) * k = 2 ^ p * (2 * k) := by rw [pow_succ]; ring
  rw [e, Nat.mod_mul_right_div_self, Nat.mod_mul_right_mod]

/-- At the ideal values a comparison is a stage of the network, upwards where the mask says so. -/
theorem col_cmp (n c g q : ℕ) (hn : 0 < n) (h : n = g * 2 * 2 ^ q) (f : ℕ → Fin c) (m : IVec (m2 n c) 1) (v : FVec Ideal (m2 n c) .bf16)
    (u : ℕ → Bool) (hm : ∀ i, m (ix2 ⟨i % n, Nat.mod_lt _ hn⟩ (f (i / n))) = BitVec.ofBool (u i ^^ bit q i)) :
    col (α := EReal) n c hn f (cmp n c g (2 ^ q) h m v) = stage u q (col (α := EReal) n c hn f v) := by
  funext i
  show Scalar.select (m (ix2 ⟨i % n, Nat.mod_lt _ hn⟩ (f (i / n)))) (min (col (α := EReal) n c hn f v i) (col (α := EReal) n c hn f (swap n c g (2 ^ q) h v) i))
    (max (col (α := EReal) n c hn f v i) (col (α := EReal) n c hn f (swap n c g (2 ^ q) h v) i)) = _
  rw [hm, select_word, col_swap]
  rfl

/-! ## The kernel's five kinds of comparison -/

/-- The number of the row, for every row. -/
def IsRow {n : ℕ} (w : IVec (m2 n 1) 32) : Prop := ∀ i, w i = BitVec.ofNat 32 (i 0).val
/-- One bit for every row. -/
def allRows (n : ℕ) (s : BitVec 1) : IVec (m2 n 1) 1 :=
  broadcastTo (m2 n 1) (broadcast (m2 n 1) s) (broadcasts_lanes n 1)
/-- A vector of rows or of lanes spread over the array, and again. -/
def spread {n c : ℕ} {s : Shape} (h : s.Broadcasts (m2 n c)) (b : IVec s 1) : IVec (m2 n c) 1 :=
  broadcastTo (m2 n c) (broadcastTo (m2 n c) b h) ⟨le_rfl, fun _ => Or.inr fun _ => rfl⟩

/-- Upwards where bit `p` of the row is clear. -/
def cmpA (n c g p q : ℕ) (w : IVec (m2 n 1) 32) (v : FVec F (m2 n c) .bf16) (h : n = g * 2 * 2 ^ q := by decide) : FVec F (m2 n c) .bf16 :=
  cmp n c g (2 ^ q) h (rowMask n c (same (m2 n 1) (clear n w (BitVec.ofNat 32 (2 ^ p))) (clear n w (BitVec.ofNat 32 (2 ^ q))))) v
/-- Upwards where bit `p` of the row is clear, or the other way round. -/
def cmpB (n c g p q : ℕ) (s : BitVec 1) (w : IVec (m2 n 1) 32) (v : FVec F (m2 n c) .bf16) (h : n = g * 2 * 2 ^ q := by decide) : FVec F (m2 n c) .bf16 :=
  cmp n c g (2 ^ q) h (rowMask n c (same (m2 n 1) (xori (clear n w (BitVec.ofNat 32 (2 ^ p))) (allRows n s)) (clear n w (BitVec.ofNat 32 (2 ^ q))))) v
/-- Upwards in the lanes below 64. -/
def cmpC (n g q : ℕ) (w : IVec (m2 n 1) 32) (l : IVec (m2 1 128) 32) (hl : (m2 1 128).Broadcasts (m2 n 128)) (v : FVec F (m2 n 128) .bf16)
    (h : n = g * 2 * 2 ^ q := by decide) : FVec F (m2 n 128) .bf16 :=
  cmp n 128 g (2 ^ q) h (same (m2 n 128) (spread hl (cmpi .slt l (broadcast (m2 1 128) 64#32)))
    (spread (broadcasts_lanes n 128) (clear n w (BitVec.ofNat 32 (2 ^ q))))) v
/-- Upwards everywhere, or downwards everywhere. -/
def cmpD (n c g q : ℕ) (s : BitVec 1) (w : IVec (m2 n 1) 32) (v : FVec F (m2 n c) .bf16) (h : n = g * 2 * 2 ^ q := by decide) : FVec F (m2 n c) .bf16 :=
  cmp n c g (2 ^ q) h (rowMask n c (xori (clear n w (BitVec.ofNat 32 (2 ^ q))) (allRows n s))) v
/-- Upwards everywhere. -/
def cmpE (n c g q : ℕ) (w : IVec (m2 n 1) 32) (v : FVec F (m2 n c) .bf16) (h : n = g * 2 * 2 ^ q := by decide) : FVec F (m2 n c) .bf16 :=
  cmp n c g (2 ^ q) h (rowMask n c (clear n w (BitVec.ofNat 32 (2 ^ q)))) v

/-- The one bit at an index. -/
theorem allRows_apply (n : ℕ) (s : BitVec 1) (i : (m2 n 1).Idx) : allRows n s i = s := rfl

/-- A bit word is the word of its truth value. -/
theorem bit_word (s : BitVec 1) : s = BitVec.ofBool (s == 1#1) := by revert s; decide

/-- The exclusive or of two bits. -/
theorem xor_word (x y : Bool) : IntOp.xori (BitVec.ofBool x) (BitVec.ofBool y) = BitVec.ofBool (x ^^ y) := by
  cases x <;> cases y <;> rfl

section Kinds

variable {n c g q : ℕ} (hn : 0 < n) (h : n = g * 2 * 2 ^ q) (f : ℕ → Fin c) (w : IVec (m2 n 1) 32) (hw : IsRow w) (h32 : n ≤ 2 ^ 32) (hq : q < 32)
  (v : FVec Ideal (m2 n c) .bf16)

include hw h32 hq h in
/-- The row's bit that a comparison's partners differ in. -/
theorem clear_dist (i : ℕ) : clear n w (BitVec.ofNat 32 (2 ^ q)) (ix2 ⟨i % n, Nat.mod_lt _ hn⟩ (0 : Fin 1)) = BitVec.ofBool (!bit q i) := by
  rw [clear_apply n q h32 hq w hw]
  show BitVec.ofBool (!bit q (i % n)) = _
  rw [bit_mod n q i ⟨g, by rw [h, pow_succ]; ring⟩]

include hw h32 hq in
/-- On a column, `cmpA` is a stage whose direction is bit `p` of the row. -/
theorem col_cmpA (p : ℕ) (hp : 2 ^ (p + 1) ∣ n) (hp32 : p < 32) :
    col (α := EReal) n c hn f (cmpA n c g p q w v h) = stage (fun i => !bit p i) q (col (α := EReal) n c hn f v) := by
  refine col_cmp n c g q hn h f _ v _ fun i => ?_
  rw [rowMask_apply, same_apply _ _ _ _ (!bit p i) (!bit q i) ?_ (clear_dist hn h w hw h32 hq i)]
  · cases bit p i <;> cases bit q i <;> rfl
  · rw [clear_apply n p h32 hp32 w hw]
    show BitVec.ofBool (!bit p (i % n)) = _
    rw [bit_mod n p i hp]

include hw h32 hq in
/-- On a block of at most `2^p` rows, `cmpB` is a stage in one direction, which `s` gives. -/
theorem col_cmpB (p : ℕ) (s : BitVec 1) (hp : n ≤ 2 ^ p) (hp32 : p < 32) :
    col (α := EReal) n c hn f (cmpB n c g p q s w v h) = stage (fun _ => !(s == 1#1)) q (col (α := EReal) n c hn f v) := by
  refine col_cmp n c g q hn h f _ v _ fun i => ?_
  rw [rowMask_apply, same_apply _ _ _ _ (!(s == 1#1)) (!bit q i) ?_ (clear_dist hn h w hw h32 hq i)]
  · cases (s == 1#1) <;> cases bit q i <;> rfl
  · show IntOp.xori (clear n w _ _) (allRows n s _) = _
    rw [clear_apply n p h32 hp32 w hw, allRows_apply, bit_word s, xor_word, ← bit_word s]
    show BitVec.ofBool (!bit p (i % n) ^^ _) = _
    have : bit p (i % n) = false := by
      unfold bit
      rw [Nat.div_eq_of_lt (lt_of_lt_of_le (Nat.mod_lt _ hn) hp)]; rfl
    rw [this]; simp

include hw h32 hq in
/-- `cmpD` is a stage in the direction that `s` gives. -/
theorem col_cmpD (s : BitVec 1) :
    col (α := EReal) n c hn f (cmpD n c g q s w v h) = stage (fun _ => !(s == 1#1)) q (col (α := EReal) n c hn f v) := by
  refine col_cmp n c g q hn h f _ v _ fun i => ?_
  rw [rowMask_apply]
  show IntOp.xori (clear n w _ _) (allRows n s _) = _
  rw [clear_dist hn h w hw h32 hq i, allRows_apply, bit_word s, xor_word, ← bit_word s]
  cases (s == 1#1) <;> cases bit q i <;> rfl

include hw h32 hq in
/-- `cmpE` is a stage upwards. -/
theorem col_cmpE : col (α := EReal) n c hn f (cmpE n c g q w v h) = stage (fun _ => true) q (col (α := EReal) n c hn f v) := by
  refine col_cmp n c g q hn h f _ v _ fun i => ?_
  rw [rowMask_apply, clear_dist hn h w hw h32 hq i]
  cases bit q i <;> rfl

end Kinds

/-! ## Two halves of the lanes -/

/-- The lane of column `j` in half `a` (even or odd). -/
def lane (j : Fin 64) (a : ℕ) : Fin 128 := ⟨64 * (a % 2) + j.val, by omega⟩

/-- A vector of lanes spread over the array, at an index. -/
theorem spread_lanes (n : ℕ) (hl : (m2 1 128).Broadcasts (m2 n 128)) (b : IVec (m2 1 128) 1) (i : Fin n) (j : Fin 128) :
    spread hl b (ix2 i j) = b (ix2 (0 : Fin 1) j) := by
  unfold spread
  refine (broadcastTo_apply _ _ _ (ix2 i j) fun a => ?_).trans (broadcastTo_1b_ab_apply _ _ _ _)
  match a with
  | ⟨0, _⟩ =>
    show i.val = if n = 1 then 0 else i.val
    split
    · have := i.isLt; omega
    · rfl
  | ⟨1, _⟩ => rfl

/-- A vector of rows spread over the array, at an index. -/
theorem spread_rows (n : ℕ) (b : IVec (m2 n 1) 1) (i : Fin n) (j : Fin 128) :
    spread (broadcasts_lanes n 128) b (ix2 i j) = b (ix2 i (0 : Fin 1)) := by
  have hi : i.val = if n = 1 then 0 else i.val := by
    split
    · have := i.isLt; omega
    · rfl
  unfold spread
  refine (broadcastTo_apply _ _ _ (ix2 i j) fun a => ?_).trans (broadcastTo_apply _ _ _ (ix2 i (0 : Fin 1)) fun a => ?_)
  · match a with
    | ⟨0, _⟩ => exact hi
    | ⟨1, _⟩ => rfl
  · match a with
    | ⟨0, _⟩ => exact hi
    | ⟨1, _⟩ => rfl

/-- A comparison upwards in the left half of the lanes, for the sequence that goes down the left half first: `2^p` rows. -/
theorem col_cmpC {n g q : ℕ} (hn : 0 < n) (h : n = g * 2 * 2 ^ q) (j : Fin 64) (w : IVec (m2 n 1) 32) (hw : IsRow w) (h32 : n ≤ 2 ^ 32) (hq : q < 32)
    (l : IVec (m2 1 128) 32) (hlane : ∀ i, l i = BitVec.ofNat 32 (i 1).val) (hl : (m2 1 128).Broadcasts (m2 n 128))
    (v : FVec Ideal (m2 n 128) .bf16) (p : ℕ) (hp : n = 2 ^ p) :
    col (α := EReal) n 128 hn (lane j) (cmpC n g q w l hl v h) = stage (fun i => !bit p i) q (col (α := EReal) n 128 hn (lane j) v) := by
  refine col_cmp n 128 g q hn h _ _ v _ fun i => ?_
  rw [same_apply _ _ _ _ (!bit p i) (!bit q i) ?_ ?_]
  · cases bit p i <;> cases bit q i <;> rfl
  · rw [spread_lanes]
    show IntOp.cmpi .slt (l _) 64#32 = _
    rw [hlane]
    show IntOp.cmpi .slt (BitVec.ofNat 32 (lane j (i / n)).val) 64#32 = _
    unfold bit
    rw [← hp]
    have key : ∀ x : Fin 128, IntOp.cmpi .slt (BitVec.ofNat 32 x.val) 64#32 = BitVec.ofBool (decide (x.val < 64)) := by decide
    rw [key]
    congr 1
    have hj := j.isLt
    rw [Bool.eq_iff_iff]
    generalize i / n = k
    rw [decide_eq_true_iff, Bool.not_eq_true', decide_eq_false_iff_not]
    show 64 * (k % 2) + j.val < 64 ↔ ¬ k % 2 = 1
    omega
  · rw [spread_rows, clear_dist hn h w hw h32 hq i]

/-- Two arrays of 64 lanes side by side. -/
def beside (n : ℕ) (h : Shape.Concatenates [m2 n 64, m2 n 64] (m2 n 128) 1) (a b : (m2 n 64).Idx → α) : (m2 n 128).Idx → α :=
  concatenate (m2 n 128) 1 [⟨m2 n 64, a⟩, ⟨m2 n 64, b⟩] h

/-- Reading in one half. -/
theorem beside_apply (n : ℕ) (h : Shape.Concatenates [m2 n 64, m2 n 64] (m2 n 128) 1) (a b : (m2 n 64).Idx → α) (i : Fin n) (j : Fin 64) (k : ℕ) :
    beside n h a b (ix2 i (lane j k)) = if k % 2 = 0 then a (ix2 i j) else b (ix2 i j) := by
  have hj := j.isLt
  unfold beside
  by_cases hk : k % 2 = 0
  · rw [if_pos hk]
    refine concatenate_pair_apply_left (t := m2 n 128) (s₁ := m2 n 64) (s₂ := m2 n 64) 1 _ _ h _ rfl (ix2 i j) fun b => ?_
    match b with
    | ⟨0, _⟩ => rfl
    | ⟨1, _⟩ =>
      show j.val = 64 * (k % 2) + j.val
      omega
  · rw [if_neg hk]
    refine concatenate_pair_apply_right (t := m2 n 128) (s₁ := m2 n 64) (s₂ := m2 n 64) 1 _ _ h _ rfl rfl (ix2 i j) (fun b hb => ?_) ?_
    · match b with
      | ⟨0, _⟩ => rfl
      | ⟨1, _⟩ => exact absurd rfl hb
    · show j.val + 64 = 64 * (k % 2) + j.val
      omega

/-- The 64 lanes from lane `o` on. -/
def lanesFrom (n o : ℕ) (h : (m2 n 128).Slices ![0, o] (m2 n 64)) (v : (m2 n 128).Idx → α) : (m2 n 64).Idx → α :=
  extractStridedSlice (m2 n 64) ![0, o] v h

/-- Their elements. -/
theorem lanesFrom_apply (n k : ℕ) (h : (m2 n 128).Slices ![0, 64 * (k % 2)] (m2 n 64)) (v : (m2 n 128).Idx → α) (i : Fin n) (j : Fin 64) :
    lanesFrom n (64 * (k % 2)) h v (ix2 i j) = v (ix2 i (lane j k)) :=
  slice2_axis1_apply _ _ _ _ _ (lane j k) rfl

/-- The left half compared with the right half: the smaller ones to the left, or to the right for `s = 1`. -/
def cmpHalves (n : ℕ) (s : BitVec 1) (h : Shape.Concatenates [m2 n 64, m2 n 64] (m2 n 128) 1) (h0 : (m2 n 128).Slices ![0, 0] (m2 n 64))
    (h1 : (m2 n 128).Slices ![0, 64] (m2 n 64)) (v : FVec F (m2 n 128) .bf16) : FVec F (m2 n 128) .bf16 :=
  beside n h
    (Scalar.select s (maximumf (lanesFrom n 0 h0 v) (lanesFrom n 64 h1 v)) (minimumf (lanesFrom n 0 h0 v) (lanesFrom n 64 h1 v)))
    (Scalar.select s (minimumf (lanesFrom n 0 h0 v) (lanesFrom n 64 h1 v)) (maximumf (lanesFrom n 0 h0 v) (lanesFrom n 64 h1 v)))

/-- Comparing the halves is the stage whose distance is the number of rows. -/
theorem col_cmpHalves (n p : ℕ) (hp : n = 2 ^ p) (hn : 0 < n) (s : BitVec 1) (h : Shape.Concatenates [m2 n 64, m2 n 64] (m2 n 128) 1)
    (h0 : (m2 n 128).Slices ![0, 0] (m2 n 64)) (h1 : (m2 n 128).Slices ![0, 64] (m2 n 64)) (v : FVec Ideal (m2 n 128) .bf16) (j : Fin 64) :
    col (α := EReal) n 128 hn (lane j) (cmpHalves n s h h0 h1 v) = stage (fun _ => !(s == 1#1)) p (col (α := EReal) n 128 hn (lane j) v) := by
  funext i
  have hi : i = n * (i / n) + i % n := (Nat.div_add_mod i n).symm
  have hlt : i % n < n := Nat.mod_lt _ hn
  have key : ∀ (k : ℕ), col (α := EReal) n 128 hn (lane j) v (n * k + i % n) = v (ix2 ⟨i % n, hlt⟩ (lane j k)) := fun k => by
    unfold col
    congr 2
    · exact Fin.ext (by show (n * k + i % n) % n = i % n; rw [Nat.mul_add_mod, Nat.mod_mod])
    · rw [Nat.mul_add_div hn, Nat.div_eq_of_lt hlt, Nat.add_zero]
  have lanes : ∀ k k', k % 2 = k' % 2 → lane j k = lane j k' := fun k k' e => Fin.ext (by show 64 * (k % 2) + _ = 64 * (k' % 2) + _; rw [e])
  have a0 : lanesFrom n 0 h0 v (ix2 ⟨i % n, hlt⟩ j) = v (ix2 ⟨i % n, hlt⟩ (lane j 0)) := lanesFrom_apply n 0 h0 v _ j
  have a1 : lanesFrom n 64 h1 v (ix2 ⟨i % n, hlt⟩ j) = v (ix2 ⟨i % n, hlt⟩ (lane j 1)) := lanesFrom_apply n 1 h1 v _ j
  have lhs : col (α := EReal) n 128 hn (lane j) (cmpHalves n s h h0 h1 v) i =
      if (i / n) % 2 = 0
        then Scalar.select s (max (v (ix2 ⟨i % n, hlt⟩ (lane j 0)) : EReal) (v (ix2 ⟨i % n, hlt⟩ (lane j 1)))) (min (v (ix2 ⟨i % n, hlt⟩ (lane j 0)) : EReal) (v (ix2 ⟨i % n, hlt⟩ (lane j 1))))
        else Scalar.select s (min (v (ix2 ⟨i % n, hlt⟩ (lane j 0)) : EReal) (v (ix2 ⟨i % n, hlt⟩ (lane j 1)))) (max (v (ix2 ⟨i % n, hlt⟩ (lane j 0)) : EReal) (v (ix2 ⟨i % n, hlt⟩ (lane j 1)))) := by
    show beside n h _ _ (ix2 ⟨i % n, hlt⟩ (lane j (i / n))) = _
    rw [beside_apply, ← a0, ← a1]
    rw [bit_word s]
    cases (s == 1#1) <;> rfl
  rw [lhs, bit_word s, ← bit_word s]
  have hs : ∀ (x y : EReal), Scalar.select s x y = if (s == 1#1) then x else y := fun x y => by
    conv_lhs => rw [bit_word s]
    exact select_word _ _ _
  rw [hs, hs]
  have rhs0 : col (α := EReal) n 128 hn (lane j) v i = v (ix2 ⟨i % n, hlt⟩ (lane j (i / n))) := rfl
  unfold stage bit partner bit
  rw [← hp]
  by_cases hk : (i / n) % 2 = 0
  · have hpn : col (α := EReal) n 128 hn (lane j) v (i + n) = v (ix2 ⟨i % n, hlt⟩ (lane j 1)) := by
      have e : i + n = n * (i / n + 1) + i % n := by rw [Nat.mul_add]; omega
      rw [e, key, lanes (i / n + 1) 1 (by omega)]
    rw [if_pos hk, rhs0, lanes (i / n) 0 (by omega), if_neg (show ¬ decide (i / n % 2 = 1) = true by simp; omega), hpn,
      decide_eq_false (show ¬ i / n % 2 = 1 by omega)]
    cases (s == 1#1) <;> rfl
  · have hpn : col (α := EReal) n 128 hn (lane j) v (i - n) = v (ix2 ⟨i % n, hlt⟩ (lane j 0)) := by
      have hk1 : 1 ≤ i / n := Nat.pos_of_ne_zero fun e => hk (by rw [e])
      obtain ⟨k, hk'⟩ : ∃ k, i / n = k + 1 := ⟨i / n - 1, by omega⟩
      have e : i - n = n * k + i % n := by
        have h' := hi
        rw [hk', Nat.mul_add] at h'
        omega
      rw [e, key, lanes k 0 (by omega)]
    rw [if_neg hk, rhs0, lanes (i / n) 1 (by omega), if_pos (show decide (i / n % 2 = 1) = true by simp; omega), hpn,
      decide_eq_true (show i / n % 2 = 1 by omega), min_comm, max_comm]
    cases (s == 1#1) <;> rfl

/-! ## Packing a sequence of twice as many rows -/

/-- The lower half of the rows beside the upper half. -/
def pack (n N : ℕ) (h : Shape.Concatenates [m2 n 64, m2 n 64] (m2 n 128) 1) (h0 : (m2 N 64).Slices ![0, 0] (m2 n 64))
    (h1 : (m2 N 64).Slices ![n, 0] (m2 n 64)) (x : (m2 N 64).Idx → α) : (m2 n 128).Idx → α :=
  beside n h (extractStridedSlice (m2 n 64) ![0, 0] x h0) (extractStridedSlice (m2 n 64) ![n, 0] x h1)

/-- The packed array holds the sequence of the whole column. -/
theorem col_pack (n N : ℕ) (hN : N = 2 * n) (hn : 0 < n) (h : Shape.Concatenates [m2 n 64, m2 n 64] (m2 n 128) 1)
    (h0 : (m2 N 64).Slices ![0, 0] (m2 n 64)) (h1 : (m2 N 64).Slices ![n, 0] (m2 n 64)) (x : (m2 N 64).Idx → α) (j : Fin 64) :
    col n 128 hn (lane j) (pack n N h h0 h1 x) = col N 64 (by omega) (fun _ => j) x := by
  funext i
  have hlt : i % n < n := Nat.mod_lt _ hn
  have hm : i % N = n * (i / n % 2) + i % n := by
    rw [hN, mul_comm 2 n, Nat.mod_mul]; omega
  show beside n h _ _ (ix2 ⟨i % n, hlt⟩ (lane j (i / n))) = x (ix2 ⟨i % N, _⟩ j)
  rw [beside_apply]
  split
  · next hk => exact slice2_axis0_apply 0 _ _ _ _ ⟨i % N, Nat.mod_lt _ (by omega)⟩ (by show i % N = 0 + i % n; rw [hm, hk]; omega)
  · next hk =>
    exact slice2_axis0_apply n _ _ _ _ ⟨i % N, Nat.mod_lt _ (by omega)⟩ (by
      show i % N = n + i % n
      rw [hm, show i / n % 2 = 1 by omega]; omega)

/-- The left half of the lanes above the right half. -/
def unpack (n N : ℕ) (h : Shape.Concatenates [m2 n 64, m2 n 64] (m2 N 64) 0) (h0 : (m2 n 128).Slices ![0, 0] (m2 n 64))
    (h1 : (m2 n 128).Slices ![0, 64] (m2 n 64)) (v : (m2 n 128).Idx → α) : (m2 N 64).Idx → α :=
  concatenate (m2 N 64) 0 [⟨m2 n 64, lanesFrom n 0 h0 v⟩, ⟨m2 n 64, lanesFrom n 64 h1 v⟩] h

/-- Unpacked, the column holds the sequence. -/
theorem unpack_apply (n N : ℕ) (hN : N = 2 * n) (hn : 0 < n) (h : Shape.Concatenates [m2 n 64, m2 n 64] (m2 N 64) 0)
    (h0 : (m2 n 128).Slices ![0, 0] (m2 n 64)) (h1 : (m2 n 128).Slices ![0, 64] (m2 n 64)) (v : (m2 n 128).Idx → α) (i : Fin N) (j : Fin 64) :
    unpack n N h h0 h1 v (ix2 i j) = col n 128 hn (lane j) v i.val := by
  have hi := i.isLt
  unfold unpack
  by_cases hk : i.val < n
  · refine (concatenate_pair_apply_left (t := m2 N 64) (s₁ := m2 n 64) (s₂ := m2 n 64) 0 _ _ h _ rfl (ix2 ⟨i.val, hk⟩ j) fun b => ?_).trans ?_
    · match b with
      | ⟨0, _⟩ => rfl
      | ⟨1, _⟩ => rfl
    · refine (lanesFrom_apply n 0 h0 v _ j).trans ?_
      unfold col
      congr 2
      · exact Fin.ext (Nat.mod_eq_of_lt hk).symm
      · rw [Nat.div_eq_of_lt hk]
  · refine (concatenate_pair_apply_right (t := m2 N 64) (s₁ := m2 n 64) (s₂ := m2 n 64) 0 _ _ h _ rfl rfl (ix2 ⟨i.val - n, by omega⟩ j) (fun b hb => ?_) ?_).trans ?_
    · match b with
      | ⟨0, _⟩ => exact absurd rfl hb
      | ⟨1, _⟩ => rfl
    · show i.val - n + n = i.val
      omega
    · refine (lanesFrom_apply n 1 h1 v _ j).trans ?_
      have e : i.val = n * 1 + (i.val - n) := by omega
      unfold col
      congr 2
      · refine Fin.ext ?_
        show i.val - n = i.val % n
        conv_rhs => rw [e, Nat.mul_add_mod, Nat.mod_eq_of_lt (by omega)]
      · conv_rhs => rw [e, Nat.mul_add_div hn, Nat.div_eq_of_lt (by omega)]

end Cert.DevSort
-- ==== Proof.Block.lean ====
/-
# The kernel's three computations as sequences of comparisons

The printed payloads of `sortBlock`, `mergeGroup` and `mergeAll` put together are the comparisons of `Stage.lean`, one
after the other. From this follows what each does to a column at the ideal values: the merges of the network of
`Net.lean` that belong to it.
-/
module

public import proofs.«01_k».proof.Proof.Runs
public import proofs.«01_k».proof.Proof.Stage

@[expose] public section

noncomputable section

namespace Cert.DevSort

open Cert.KernelIdeal Cert.KernelIdeal.Gen
open Idealize.ShloMosaic Idealize.ShloMosaic.ValueIdx

variable {F : FTy → Type} [FloatOps F]

/-- The numbers of the rows of a block. -/
def rows128 : IVec (m2 128 1) 32 := iota .tc S128x1 32 [0] iota_S128x1_d0_w32
/-- The numbers of the rows of a packed group. -/
def rows512 : IVec (m2 512 1) 32 := iota .tc S512x1 32 [0] iota_S512x1_d0_w32
/-- The numbers of the rows of the packed whole. -/
def rows2048 : IVec (m2 2048 1) 32 := iota .tc S2048x1 32 [0] iota_S2048x1_d0_w32
/-- The numbers of the lanes. -/
def lanes : IVec (m2 1 128) 32 := iota .tc S1x128 32 [1] iota_S1x128_d1_w32

/-! ## The comparisons -/

/-- The comparisons of a block's sort: the merges of lengths 2 to 64 in the directions of the rows' bits, and the merge
    of length 128 upwards, or downwards for `d = 1`. -/
def blockNet (d : BitVec 1) (v : FVec F (m2 128 64) .bf16) : FVec F (m2 128 64) .bf16 :=
    cmpB 128 64 64 7 0 d rows128 <| cmpB 128 64 32 7 1 d rows128 <| cmpB 128 64 16 7 2 d rows128 <| cmpB 128 64 8 7 3 d rows128 <|
    cmpB 128 64 4 7 4 d rows128 <| cmpB 128 64 2 7 5 d rows128 <| cmpB 128 64 1 7 6 d rows128 <| cmpA 128 64 64 6 0 rows128 <|
    cmpA 128 64 32 6 1 rows128 <| cmpA 128 64 16 6 2 rows128 <| cmpA 128 64 8 6 3 rows128 <| cmpA 128 64 4 6 4 rows128 <|
    cmpA 128 64 2 6 5 rows128 <| cmpA 128 64 64 5 0 rows128 <| cmpA 128 64 32 5 1 rows128 <| cmpA 128 64 16 5 2 rows128 <|
    cmpA 128 64 8 5 3 rows128 <| cmpA 128 64 4 5 4 rows128 <| cmpA 128 64 64 4 0 rows128 <| cmpA 128 64 32 4 1 rows128 <|
    cmpA 128 64 16 4 2 rows128 <| cmpA 128 64 8 4 3 rows128 <| cmpA 128 64 64 3 0 rows128 <| cmpA 128 64 32 3 1 rows128 <|
    cmpA 128 64 16 3 2 rows128 <| cmpA 128 64 64 2 0 rows128 <| cmpA 128 64 32 2 1 rows128 <| cmpA 128 64 64 1 0 rows128 <| v

/-- The comparisons of a group's merge, packed: the merge of length 256, the merge of length 512, upwards in the left
    half, and the merge of length 1024 upwards, or downwards for `s = 1`. -/
def groupNet (s : BitVec 1) (v : FVec F (m2 512 128) .bf16) : FVec F (m2 512 128) .bf16 :=
    cmpD 512 128 256 0 s rows512 <| cmpD 512 128 128 1 s rows512 <| cmpD 512 128 64 2 s rows512 <| cmpD 512 128 32 3 s rows512 <|
    cmpD 512 128 16 4 s rows512 <| cmpD 512 128 8 5 s rows512 <| cmpD 512 128 4 6 s rows512 <| cmpD 512 128 2 7 s rows512 <|
    cmpD 512 128 1 8 s rows512 <|
    cmpHalves 512 s concatenates_S512x64_S512x64_S512x128_d1 slices_S512x128_o0_0_S512x64 slices_S512x128_o0_64_S512x64 <|
    cmpC 512 256 0 rows512 lanes broadcasts_S1x128_S512x128 <| cmpC 512 128 1 rows512 lanes broadcasts_S1x128_S512x128 <|
    cmpC 512 64 2 rows512 lanes broadcasts_S1x128_S512x128 <| cmpC 512 32 3 rows512 lanes broadcasts_S1x128_S512x128 <|
    cmpC 512 16 4 rows512 lanes broadcasts_S1x128_S512x128 <| cmpC 512 8 5 rows512 lanes broadcasts_S1x128_S512x128 <|
    cmpC 512 4 6 rows512 lanes broadcasts_S1x128_S512x128 <| cmpC 512 2 7 rows512 lanes broadcasts_S1x128_S512x128 <|
    cmpC 512 1 8 rows512 lanes broadcasts_S1x128_S512x128 <| cmpA 512 128 256 8 0 rows512 <| cmpA 512 128 128 8 1 rows512 <|
    cmpA 512 128 64 8 2 rows512 <| cmpA 512 128 32 8 3 rows512 <| cmpA 512 128 16 8 4 rows512 <| cmpA 512 128 8 8 5 rows512 <|
    cmpA 512 128 4 8 6 rows512 <| cmpA 512 128 2 8 7 rows512 <| v

/-- The comparisons of the last merge, packed: the merge of length 2048, upwards in the left half, and the merge of
    length 4096. -/
def allNet (v : FVec F (m2 2048 128) .bf16) : FVec F (m2 2048 128) .bf16 :=
    cmpE 2048 128 1024 0 rows2048 <| cmpE 2048 128 512 1 rows2048 <| cmpE 2048 128 256 2 rows2048 <| cmpE 2048 128 128 3 rows2048 <|
    cmpE 2048 128 64 4 rows2048 <| cmpE 2048 128 32 5 rows2048 <| cmpE 2048 128 16 6 rows2048 <| cmpE 2048 128 8 7 rows2048 <|
    cmpE 2048 128 4 8 rows2048 <| cmpE 2048 128 2 9 rows2048 <| cmpE 2048 128 1 10 rows2048 <|
    cmpHalves 2048 0#1 concatenates_S2048x64_S2048x64_S2048x128_d1 slices_S2048x128_o0_0_S2048x64 slices_S2048x128_o0_64_S2048x64 <|
    cmpC 2048 1024 0 rows2048 lanes broadcasts_S1x128_S2048x128 <| cmpC 2048 512 1 rows2048 lanes broadcasts_S1x128_S2048x128 <|
    cmpC 2048 256 2 rows2048 lanes broadcasts_S1x128_S2048x128 <| cmpC 2048 128 3 rows2048 lanes broadcasts_S1x128_S2048x128 <|
    cmpC 2048 64 4 rows2048 lanes broadcasts_S1x128_S2048x128 <| cmpC 2048 32 5 rows2048 lanes broadcasts_S1x128_S2048x128 <|
    cmpC 2048 16 6 rows2048 lanes broadcasts_S1x128_S2048x128 <| cmpC 2048 8 7 rows2048 lanes broadcasts_S1x128_S2048x128 <|
    cmpC 2048 4 8 rows2048 lanes broadcasts_S1x128_S2048x128 <| cmpC 2048 2 9 rows2048 lanes broadcasts_S1x128_S2048x128 <|
    cmpC 2048 1 10 rows2048 lanes broadcasts_S1x128_S2048x128 <| v

/-- A block's sort is its comparisons. -/
theorem sortBlock_eq (d : BitVec 1) (x : FVec F S128x64 .bf16) : sortBlock d x =
    shapeCast S1x128x64 (shapeCast S1x128x64 (blockNet d (shapeCast S128x64 x shapeCasts_S128x64_S128x64)) shapeCasts_S128x64_S1x128x64)
      shapeCasts_S1x128x64_S1x128x64 := rfl

/-- A group's merge is its comparisons, on the packed group. -/
theorem mergeGroup_eq (s : BitVec 1) (x : FVec F S8x128x64 .bf16) : mergeGroup s x =
    shapeCast S8x128x64 (shapeCast S8x128x64 (unpack 512 1024 concatenates_S512x64_S512x64_S1024x64_d0 slices_S512x128_o0_0_S512x64 slices_S512x128_o0_64_S512x64
      (groupNet s (pack 512 1024 concatenates_S512x64_S512x64_S512x128_d1 slices_S1024x64_o0_0_S512x64 slices_S1024x64_o512_0_S512x64
        (shapeCast S1024x64 x shapeCasts_S8x128x64_S1024x64)))) shapeCasts_S1024x64_S8x128x64) shapeCasts_S8x128x64_S8x128x64 := rfl

/-- The last merge is its comparisons, on the packed whole. -/
theorem mergeAll_eq (x : FVec F S32x128x64 .bf16) : mergeAll x =
    shapeCast S32x128x64 (shapeCast S32x128x64 (unpack 2048 4096 concatenates_S2048x64_S2048x64_S4096x64_d0 slices_S2048x128_o0_0_S2048x64 slices_S2048x128_o0_64_S2048x64
      (allNet (pack 2048 4096 concatenates_S2048x64_S2048x64_S2048x128_d1 slices_S4096x64_o0_0_S2048x64 slices_S4096x64_o2048_0_S2048x64
        (shapeCast S4096x64 x shapeCasts_S32x128x64_S4096x64)))) shapeCasts_S4096x64_S32x128x64) shapeCasts_S32x128x64_S32x128x64 := rfl

/-! ## What they do to a column -/

/-- The row words of a block of 128 rows are the rows' numbers. -/
theorem isRow_rows128 : IsRow rows128 := fun i => iota_single_apply _ _ _ _ _ i
/-- Those of 512 rows. -/
theorem isRow_rows512 : IsRow rows512 := fun i => iota_single_apply _ _ _ _ _ i
/-- Those of 2048 rows. -/
theorem isRow_rows2048 : IsRow rows2048 := fun i => iota_single_apply _ _ _ _ _ i
/-- The lane words are the lanes' numbers. -/
theorem lanes_apply (i : (m2 1 128).Idx) : lanes i = BitVec.ofNat 32 (i 1).val := iota_single_apply _ _ _ _ _ i

/-- The sequence of column `j` of a block. -/
abbrev colOf (n : ℕ) (hn : 0 < n) (j : Fin 64) (x : FVec Ideal (m2 n 64) .bf16) : ℕ → EReal := col (α := EReal) n 64 hn (fun _ => j) x
/-- The sequence of column `j` of a packed array. -/
abbrev packedCol (n : ℕ) (hn : 0 < n) (j : Fin 64) (x : FVec Ideal (m2 n 128) .bf16) : ℕ → EReal := col (α := EReal) n 128 hn (lane j) x

/-- A block's sort is the network of length 64 and then a merge of length 128 in one direction. -/
theorem col_blockNet (d : BitVec 1) (j : Fin 64) (x : FVec Ideal (m2 128 64) .bf16) :
    colOf 128 (by decide) j (blockNet d x) = merge (fun _ => !(d == 1#1)) 7 (net 6 (colOf 128 (by decide) j x)) := by
  unfold blockNet colOf
  simp (disch := first | exact isRow_rows128 | decide) only [col_cmpA, col_cmpB]
  rfl

/-- A group's merge is the merges of lengths 256 and 512 in the directions of the positions' bits, and the merge of length
    1024 in one direction. -/
theorem col_groupNet (s : BitVec 1) (j : Fin 64) (x : FVec Ideal (m2 512 128) .bf16) :
    packedCol 512 (by decide) j (groupNet s x) = merge (fun _ => !(s == 1#1)) 10
      (merge (fun i => !bit 9 i) 9 (merge (fun i => !bit 8 i) 8 (packedCol 512 (by decide) j x))) := by
  unfold groupNet packedCol
  have hC := fun g q h hq v => col_cmpC (n := 512) (g := g) (q := q) (by decide) h j rows512 isRow_rows512 (by decide) hq lanes lanes_apply
    broadcasts_S1x128_S512x128 v 9 rfl
  have hH := fun v => col_cmpHalves 512 9 rfl (by decide) s concatenates_S512x64_S512x64_S512x128_d1 slices_S512x128_o0_0_S512x64 slices_S512x128_o0_64_S512x64 v j
  simp (disch := first | exact isRow_rows512 | decide) only [col_cmpA, hC, hH, col_cmpD]
  rfl

/-- The last merge is the merge of length 2048 in the directions of the positions' bits, and the merge of length 4096. -/
theorem col_allNet (j : Fin 64) (x : FVec Ideal (m2 2048 128) .bf16) :
    packedCol 2048 (by decide) j (allNet x) = merge (fun _ => true) 12 (merge (fun i => !bit 11 i) 11 (packedCol 2048 (by decide) j x)) := by
  unfold allNet packedCol
  have hC := fun g q h hq v => col_cmpC (n := 2048) (g := g) (q := q) (by decide) h j rows2048 isRow_rows2048 (by decide) hq lanes lanes_apply
    broadcasts_S1x128_S2048x128 v 11 rfl
  have hH := fun v => col_cmpHalves 2048 11 rfl (by decide) 0#1 concatenates_S2048x64_S2048x64_S2048x128_d1 slices_S2048x128_o0_0_S2048x64 slices_S2048x128_o0_64_S2048x64 v j
  simp (disch := first | exact isRow_rows2048 | decide) only [hC, hH, col_cmpE]
  rfl

end Cert.DevSort
-- ==== Proof.Value.lean ====
/-
# The last merge holds the sorted columns

The rows of all the devices one after the other make one sequence of 4096 values for each column (`wholeCol`). Each
device's sort, each group's merge and the last merge are windows of the network of length 4096 on that sequence, so the
buffer after each of them holds the network after 7, 10 and 12 merges.
-/
module

public import proofs.«01_k».proof.Proof.Block

@[expose] public section

noncomputable section

namespace Cert.DevSort

open Cert.KernelIdeal Cert.KernelIdeal.Gen
open Idealize.ShloMosaic Idealize.ShloMosaic.ValueIdx

/-! ## Windows of a sequence -/

/-- The block of `N` values numbered `k`, repeated. -/
def window {α : Type} (N k : ℕ) (v : ℕ → α) (i : ℕ) : α := v (N * k + i % N)

/-- A position of the window has the low bits of its number. -/
theorem bit_window (N k q i : ℕ) (hq : 2 ^ (q + 1) ∣ N) : bit q (N * k + i % N) = bit q i := by
  rw [← bit_mod N q (N * k + i % N) hq, Nat.mul_add_mod, Nat.mod_mod, bit_mod N q i hq]

/-- Its partner is in the window. -/
theorem partner_window (N k q i : ℕ) (hN : 0 < N) (hq : 2 ^ (q + 1) ∣ N) : partner q (N * k + i % N) = N * k + partner q i % N := by
  obtain ⟨M, rfl⟩ := hq
  have hp : 0 < 2 ^ q := by positivity
  have hM : 0 < M := Nat.pos_of_ne_zero fun e => by subst e; omega
  obtain ⟨n, e, he, rfl⟩ : ∃ n e, e < 2 ^ q ∧ i = 2 ^ q * n + e := ⟨i / 2 ^ q, i % 2 ^ q, Nat.mod_lt _ hp, (Nat.div_add_mod i _).symm⟩
  obtain ⟨m, b, hb, rfl⟩ : ∃ m b, b < 2 ∧ n = 2 * m + b := ⟨n / 2, n % 2, by omega, by omega⟩
  obtain ⟨x, a, ha, rfl⟩ : ∃ x a, a < M ∧ m = M * x + a := ⟨m / M, m % M, Nat.mod_lt _ hM, (Nat.div_add_mod m _).symm⟩
  -- the position in its window, for either half of the pair
  have inside : ∀ b' < 2, (2 ^ q * (2 * (M * x + a) + b') + e) % (2 ^ (q + 1) * M) = 2 ^ q * (2 * a + b') + e := fun b' hb' => by
    have h1 : 2 ^ q * (2 * (M * x + a) + b') + e = 2 ^ (q + 1) * M * x + (2 ^ q * (2 * a + b') + e) := by rw [pow_succ]; ring
    have h2 : 2 ^ q * (2 * a + b' + 1) ≤ 2 ^ q * (2 * M) := Nat.mul_le_mul_left _ (by omega)
    have h3 : 2 ^ (q + 1) * M = 2 ^ q * (2 * M) := by rw [pow_succ]; ring
    rw [h1, Nat.mul_add_mod, Nat.mod_eq_of_lt]
    rw [Nat.mul_add _ _ 1] at h2
    omega
  have moved : ∀ b', 2 ^ (q + 1) * M * k + (2 ^ q * (2 * a + b') + e) = 2 ^ q * (2 * (M * k + a) + b') + e := fun b' => by rw [pow_succ]; ring
  rw [inside b hb, moved]
  obtain rfl | rfl : b = 0 ∨ b = 1 := by omega
  · simp only [Nat.add_zero]
    rw [partner_even q _ e he, partner_even q _ e he, inside 1 (by omega), moved]
  · rw [partner_odd q _ e he, partner_odd q _ e he]
    have := inside 0 (by omega)
    rw [Nat.add_zero, Nat.add_zero] at this
    have hm := moved 0
    rw [Nat.add_zero, Nat.add_zero] at hm
    rw [this, hm, Nat.add_zero]

variable {α : Type} [LinearOrder α]

/-- A stage on a window. -/
theorem stage_window (N k q : ℕ) (hN : 0 < N) (hq : 2 ^ (q + 1) ∣ N) (u : ℕ → Bool) (v : ℕ → α) :
    window N k (stage u q v) = stage (window N k u) q (window N k v) := by
  funext i
  unfold window stage
  rw [bit_window N k q i hq, partner_window N k q i hN hq]

/-- A merge on a window. -/
theorem merge_window (N k q : ℕ) (hN : 0 < N) (hq : 2 ^ q ∣ N) (u : ℕ → Bool) (v : ℕ → α) :
    window N k (merge u q v) = merge (window N k u) q (window N k v) := by
  induction q generalizing v with
  | zero => rfl
  | succ q ih =>
    refine (ih (dvd_trans ⟨2, pow_succ 2 q⟩ hq) (stage u q v)).trans ?_
    rw [stage_window N k q hN hq]
    rfl

/-- A direction given by a low bit, on a window. -/
theorem window_dir (N k p : ℕ) (hp : 2 ^ (p + 1) ∣ N) : window N k (fun i => !bit p i) = fun i => !bit p i := by
  funext i
  show (!bit p (N * k + i % N)) = !bit p i
  rw [bit_window N k p i hp]

/-- The network on a window longer than it. -/
theorem net_window (N k p : ℕ) (hN : 0 < N) (hp : 2 ^ (p + 1) ∣ N) (v : ℕ → α) : window N k (net p v) = net p (window N k v) := by
  induction p with
  | zero => rfl
  | succ p ih =>
    have h1 : 2 ^ (p + 1) ∣ N := dvd_trans ⟨2, pow_succ 2 (p + 1)⟩ hp
    show window N k (merge (fun i => !bit (p + 1) i) (p + 1) (net p v)) = _
    rw [merge_window N k (p + 1) hN h1, window_dir N k (p + 1) hp, ih h1]
    rfl

/-- The direction given by the bit of the window's own length, on the window. -/
theorem window_own (N p k : ℕ) (h : N = 2 ^ p) : window N k (fun i => !bit p i) = fun _ => !decide (k % 2 = 1) := by
  subst h
  funext i
  show (!bit p (2 ^ p * k + i % 2 ^ p)) = _
  rw [bit_block p k _ (Nat.mod_lt _ (by positivity))]

/-! ## Three axes and two -/

/-- Slots of 128 rows joined. -/
theorem cast_join {β : Type} (s N : ℕ) (h : (⟨3, ![s, 128, 64]⟩ : Shape).ShapeCasts (m2 N 64)) (x : (⟨3, ![s, 128, 64]⟩ : Shape).Idx → β)
    (i : Fin N) (a : Fin s) (b : Fin 128) (j : Fin 64) (hi : i.val = a.val * 128 + b.val) : shapeCast (m2 N 64) x h (ix2 i j) = x (ix3 a b j) :=
  shapeCast_apply _ _ _ _ (by
    rw [Shape.rowMajor_val_three, Shape.rowMajor_val_two]
    show (a.val * 128 + b.val) * 64 + j.val = i.val * 64 + j.val
    rw [hi])

/-- And cut again. -/
theorem cast_cut {β : Type} (s N : ℕ) (h : (m2 N 64).ShapeCasts (⟨3, ![s, 128, 64]⟩ : Shape)) (x : (m2 N 64).Idx → β)
    (i : Fin N) (a : Fin s) (b : Fin 128) (j : Fin 64) (hi : i.val = a.val * 128 + b.val) :
    shapeCast (⟨3, ![s, 128, 64]⟩ : Shape) x h (ix3 a b j) = x (ix2 i j) :=
  shapeCast_apply _ _ _ _ (by
    rw [Shape.rowMajor_val_three, Shape.rowMajor_val_two]
    show i.val * 64 + j.val = (a.val * 128 + b.val) * 64 + j.val
    rw [hi])

/-- A cast to the same shape changes nothing. -/
theorem cast_self {β : Type} (s : Shape) (h : s.ShapeCasts s) (x : s.Idx → β) : shapeCast s x h = x :=
  funext fun j => shapeCast_apply _ _ _ _ rfl

/-- The packed array's sequence is the column's. -/
theorem packedCol_pack (n N : ℕ) (hN : N = 2 * n) (hn : 0 < n) (h : Shape.Concatenates [m2 n 64, m2 n 64] (m2 n 128) 1)
    (h0 : (m2 N 64).Slices ![0, 0] (m2 n 64)) (h1 : (m2 N 64).Slices ![n, 0] (m2 n 64)) (x : FVec Ideal (m2 N 64) .bf16) (j : Fin 64) :
    packedCol n hn j (pack n N h h0 h1 x) = colOf N (by omega) j x := col_pack n N hN hn h h0 h1 x j

/-! ## The buffer after each step -/

variable (x : Dev nD → FVec Ideal S128x64 .bf16)

/-- Column `j` of all the devices' rows, one device after the other. -/
def wholeCol (j : Fin 64) (i : ℕ) : EReal := x ⟨i / 128 % 32, Nat.mod_lt _ (by decide)⟩ (ix2 (⟨i % 128, Nat.mod_lt _ (by decide)⟩ : Fin 128) j)

/-- One device's rows are a window of the whole column. -/
theorem wholeCol_window (s : Dev nD) (j : Fin 64) : colOf 128 (by decide) j (x s) = window 128 s.val (wholeCol x j) := by
  funext i
  have hs : s.val < 32 := s.isLt
  unfold window wholeCol
  show x s (ix2 (⟨i % 128, _⟩ : Fin 128) j) = _
  have h1 : (⟨(128 * s.val + i % 128) / 128 % 32, Nat.mod_lt _ (by decide)⟩ : Dev nD) = s := Fin.ext (by show _ % 32 = s.val; omega)
  have h2 : (⟨(128 * s.val + i % 128) % 128, Nat.mod_lt _ (by decide)⟩ : Fin 128) = ⟨i % 128, Nat.mod_lt _ (by decide)⟩ := Fin.ext (by show _ % 128 = i % 128; omega)
  rw [h1, h2]

/-- Whether a device sorts downwards, as a truth value. -/
theorem devBit_word (c : Dev nD) : (devBit c == 1#1) = decide (c.val % 2 = 1) := by
  unfold devBit; split <;> simp [*]
/-- Whether a group merges downwards, as a truth value. -/
theorem groupBit_word (c : Dev nD) : (groupBit c == 1#1) = decide (c.val / 8 % 2 = 1) := by
  unfold groupBit; split <;> simp [*]

/-- After the first exchange the buffer holds the network after 7 merges. -/
theorem sorted1_apply (s : Fin 32) (r : Fin 128) (j : Fin 64) : sorted1 x (ix3 s r j) = net 7 (wholeCol x j) (128 * s.val + r.val) := by
  have key : colOf 128 (by decide) j (blockNet (devBit s) (x s)) = window 128 s.val (net 7 (wholeCol x j)) := by
    rw [col_blockNet, wholeCol_window, devBit_word, ← net_window 128 s.val 6 (by decide) (by decide)]
    show _ = window 128 s.val (merge (fun i => !bit 7 i) 7 (net 6 (wholeCol x j)))
    rw [merge_window 128 s.val 7 (by decide) (by decide), window_own 128 7 s.val rfl]
  have hr : r.val % 128 = r.val := Nat.mod_eq_of_lt r.isLt
  show sortBlock (devBit s) (x s) (ix3 (0 : Fin 1) r j) = _
  rw [sortBlock_eq, cast_self, cast_self]
  refine (cast_cut 1 128 _ _ r 0 r j (by simp)).trans ?_
  have := congrFun key r.val
  unfold window at this
  rw [hr] at this
  rw [← this]
  show _ = blockNet (devBit s) (x s) (ix2 (⟨r.val % 128, _⟩ : Fin 128) j)
  congr 2
  exact Fin.ext hr.symm

/-- After the second exchange the buffer holds the network after 10 merges. -/
theorem sorted2_apply (s : Fin 32) (r : Fin 128) (j : Fin 64) : sorted2 x (ix3 s r j) = net 10 (wholeCol x j) (128 * s.val + r.val) := by
  have hs := s.isLt
  have hr := r.isLt
  have start : colOf 1024 (by decide) j (shapeCast S1024x64 (groupOf (sorted1 x) s) shapeCasts_S8x128x64_S1024x64) =
      window 1024 (s.val / 8) (net 7 (wholeCol x j)) := by
    funext i
    refine (cast_join 8 1024 _ _ ⟨i % 1024, Nat.mod_lt _ (by decide)⟩ ⟨i % 1024 / 128, by omega⟩ ⟨i % 1024 % 128, by omega⟩ j
      (by show i % 1024 = i % 1024 / 128 * 128 + i % 1024 % 128; omega)).trans ?_
    refine (sorted1_apply x ⟨s.val / 8 * 8 + i % 1024 / 128, by omega⟩ ⟨i % 1024 % 128, by omega⟩ j).trans ?_
    unfold window
    congr 1
    show 128 * (s.val / 8 * 8 + i % 1024 / 128) + i % 1024 % 128 = _
    omega
  have key : packedCol 512 (by decide) j (groupNet (groupBit s) (pack 512 1024 concatenates_S512x64_S512x64_S512x128_d1 slices_S1024x64_o0_0_S512x64
      slices_S1024x64_o512_0_S512x64 (shapeCast S1024x64 (groupOf (sorted1 x) s) shapeCasts_S8x128x64_S1024x64))) =
      window 1024 (s.val / 8) (net 10 (wholeCol x j)) := by
    rw [col_groupNet, packedCol_pack 512 1024 rfl (by decide), start, groupBit_word]
    show _ = window 1024 (s.val / 8) (merge (fun i => !bit 10 i) 10 (merge (fun i => !bit 9 i) 9 (merge (fun i => !bit 8 i) 8 (net 7 (wholeCol x j)))))
    rw [merge_window 1024 _ 10 (by decide) (by decide), window_own 1024 10 _ rfl, merge_window 1024 _ 9 (by decide) (by decide), window_dir 1024 _ 9 (by decide),
      merge_window 1024 _ 8 (by decide) (by decide), window_dir 1024 _ 8 (by decide)]
  show mergeGroup (groupBit s) (groupOf (sorted1 x) s) (ix3 (⟨s.val % 8, _⟩ : Fin 8) r j) = _
  rw [mergeGroup_eq, cast_self]
  refine (cast_cut 8 1024 _ _ ⟨s.val % 8 * 128 + r.val, by omega⟩ ⟨s.val % 8, by omega⟩ r j rfl).trans ?_
  rw [unpack_apply 512 1024 rfl (by decide)]
  refine (congrFun key _).trans ?_
  unfold window
  congr 1
  show 1024 * (s.val / 8) + (s.val % 8 * 128 + r.val) % 1024 = _
  omega

/-- After the last merge it holds the network after all 12. -/
theorem sorted3_apply (s : Fin 32) (r : Fin 128) (j : Fin 64) : sorted3 x (ix3 s r j) = net 12 (wholeCol x j) (128 * s.val + r.val) := by
  have hs := s.isLt
  have hr := r.isLt
  have start : colOf 4096 (by decide) j (shapeCast S4096x64 (sorted2 x) shapeCasts_S32x128x64_S4096x64) = window 4096 0 (net 10 (wholeCol x j)) := by
    funext i
    refine (cast_join 32 4096 _ _ ⟨i % 4096, Nat.mod_lt _ (by decide)⟩ ⟨i % 4096 / 128, by omega⟩ ⟨i % 4096 % 128, by omega⟩ j
      (by show i % 4096 = i % 4096 / 128 * 128 + i % 4096 % 128; omega)).trans ?_
    refine (sorted2_apply x ⟨i % 4096 / 128, by omega⟩ ⟨i % 4096 % 128, by omega⟩ j).trans ?_
    unfold window
    congr 1
    show 128 * (i % 4096 / 128) + i % 4096 % 128 = _
    omega
  have key : packedCol 2048 (by decide) j (allNet (pack 2048 4096 concatenates_S2048x64_S2048x64_S2048x128_d1 slices_S4096x64_o0_0_S2048x64
      slices_S4096x64_o2048_0_S2048x64 (shapeCast S4096x64 (sorted2 x) shapeCasts_S32x128x64_S4096x64))) = window 4096 0 (net 12 (wholeCol x j)) := by
    rw [col_allNet, packedCol_pack 2048 4096 rfl (by decide), start]
    show _ = window 4096 0 (merge (fun i => !bit 12 i) 12 (merge (fun i => !bit 11 i) 11 (net 10 (wholeCol x j))))
    rw [merge_window 4096 0 12 (by decide) (by decide), window_own 4096 12 0 rfl, merge_window 4096 0 11 (by decide) (by decide), window_dir 4096 0 11 (by decide)]
    rfl
  unfold sorted3
  rw [mergeAll_eq, cast_self]
  refine (cast_cut 32 4096 _ _ ⟨s.val * 128 + r.val, by omega⟩ s r j rfl).trans ?_
  rw [unpack_apply 2048 4096 rfl (by decide)]
  refine (congrFun key _).trans ?_
  unfold window
  congr 1
  show 4096 * 0 + (s.val * 128 + r.val) % 4096 = _
  omega

/-- What a device writes out is its rows of the sorted column. -/
theorem result_apply (c : Dev nD) (r : Fin 128) (j : Fin 64) : result x c (ix2 r j) = net 12 (wholeCol x j) (128 * c.val + r.val) := by
  refine Eq.trans ?_ (sorted3_apply x c r j)
  exact shapeCast_apply (t := S128x64) (fun k : S1x128x64.Idx => sorted3 x (ix3 (c : Fin 32) (k 1) (k 2))) shapeCasts_S1x128x64_S128x64 (ix2 r j)
    (ix3 (0 : Fin 1) r j) (by
      rw [Shape.rowMajor_val_three, Shape.rowMajor_val_two]
      show (0 * 128 + r.val) * 64 + j.val = r.val * 64 + j.val
      omega)

end Cert.DevSort
-- ==== Proof.Reference.lean ====
/-
# The reference's sort is the network's

Over the extended reals the reference's comparison is `<`, so each column of its result is its argument's column,
rearranged and in order. There is one such column, and the network of length 4096 gives it too.
-/
module

public import proofs.«01_k».proof.ReferenceIdeal
public import proofs.«01_k».proof.Proof.Net
public import Idealize.ShloMosaic.PureOps.Ideal.Laws
public import Idealize.ShloMosaic.Lib.SortFacts
public import Idealize.ShloMosaic.Lib.ValueIdx
public import Mathlib.Data.Fintype.Basic
public import Mathlib.Data.Fintype.EquivFin
public import Mathlib.Tactic.FinCases

@[expose] public section

noncomputable section

namespace Cert.DevSort

open Cert.ReferenceIdeal
open Idealize.ShloMosaic Idealize.ShloMosaic.ValueIdx

variable [Facts₀]

/-- The reference's comparison of two extended reals is `<`: neither differs from itself, and a zero is replaced by zero. -/
theorem comparator_ideal (l r : Ideal .f32) : (comparator_f32_d0 (F := Ideal) l r == 1#1) = decide ((l : EReal) < (r : EReal)) := by
  have clean : ∀ y : Ideal .f32, Scalar.select (FloatOps.cmpf (F := Ideal) .une y y) (FloatOps.ofBits (F := Ideal) .f32 0x7FC00000#32)
      (Scalar.select (FloatOps.cmpf (F := Ideal) .oeq y (FloatOps.ofBits (F := Ideal) .f32 0x00000000#32)) (FloatOps.ofBits (F := Ideal) .f32 0x00000000#32) y) = y := by
    intro y
    have self : FloatOps.cmpf (F := Ideal) .une y y = 0#1 := by
      show BitVec.ofBool (decide ((y : EReal) ≠ y)) = 0#1
      simp
    rw [self]
    show Scalar.select (BitVec.ofBool (decide ((y : EReal) = FloatOps.ofBits (F := Ideal) .f32 0x00000000#32))) _ y = y
    by_cases h : (y : EReal) = FloatOps.ofBits (F := Ideal) .f32 0x00000000#32
    · rw [decide_eq_true h]; exact h.symm
    · rw [decide_eq_false h]; rfl
  unfold comparator_f32_d0
  simp only [clean]
  show (BitVec.ofBool (decide ((l : EReal) < (r : EReal))) == 1#1) = _
  cases decide ((l : EReal) < (r : EReal)) <;> rfl

variable (X : FVec Ideal S4096x64 .f32)

/-- A column of the reference's argument, as a sequence. -/
def argCol (j : Fin 64) (i : ℕ) : EReal := X (ix2 (⟨i % 4096, Nat.mod_lt _ (by decide)⟩ : Fin 4096) j)

/-- The row of the argument that the reference's sort of a column puts in each row. -/
def pick (j : Fin 64) : Fin 4096 → Fin 4096 :=
  sortedFrom fun k k' => decide ((X (ix2 k j) : EReal) < (X (ix2 k' j) : EReal))

/-- The reference's sort, element by element. -/
theorem sort_apply (i : Fin 4096) (j : Fin 64) :
    Host.sort S4096x64 0 (comparator_f32_d0 (F := Ideal)) X (ix2 i j) = X (ix2 (pick X j i) j) := by
  have along : ∀ k : Fin 4096, (ix2 i j : S4096x64.Idx).along (0 : Fin 2) k = ix2 k j := by
    intro k
    funext a
    fin_cases a <;> rfl
  show X ((ix2 i j : S4096x64.Idx).along (0 : Fin 2) (sortedFrom (fun k k' : Fin 4096 => comparator_f32_d0 (F := Ideal)
    (X ((ix2 i j : S4096x64.Idx).along (0 : Fin 2) k)) (X ((ix2 i j : S4096x64.Idx).along (0 : Fin 2) k')) == 1#1) i)) = _
  simp only [along, comparator_ideal]
  exact congrArg X (along _)

/-- A later row holds no smaller value. -/
theorem pick_le (j : Fin 64) (i i' : Fin 4096) (h : i ≤ i') : (X (ix2 (pick X j i) j) : EReal) ≤ X (ix2 (pick X j i') j) := by
  rcases h.eq_or_lt with rfl | hlt
  · exact le_rfl
  · have lt := sortedFrom_noInversion (fun k k' => decide ((X (ix2 k j) : EReal) < (X (ix2 k' j) : EReal)))
      (fun k k' => decide ((X (ix2 k j) : EReal) < (X (ix2 k' j) : EReal)))
      (fun a b hab => decide_eq_false (lt_asymm (of_decide_eq_true hab)))
      (fun a b hab => hab)
      (fun a b c hab hbc => decide_eq_false (not_lt.mpr (le_trans (not_lt.mp (of_decide_eq_false hbc)) (not_lt.mp (of_decide_eq_false hab)))))
      i i' hlt
    exact not_lt.mp (of_decide_eq_false lt)

/-- The values at the first `n` positions, taken over the positions as numbers or as members of `Fin n`. -/
theorem range_map_fin (n : ℕ) (v : ℕ → EReal) (f : Fin n → EReal) (h : ∀ k : Fin n, v k.val = f k) :
    (Multiset.range n).map v = (Finset.univ : Finset (Fin n)).val.map f := by
  have range : Multiset.range n = (Finset.univ : Finset (Fin n)).val.map Fin.val := by
    rw [Fin.univ_val_map]
    exact congrArg _ (List.ext_getElem (by rw [List.length_range, List.length_ofFn]) fun n h h' => by rw [List.getElem_range, List.getElem_ofFn])
  rw [range, Multiset.map_map]
  exact Multiset.map_congr rfl fun k _ => h k

/-- Rearranging the positions by a one-to-one map does not change the values. -/
theorem map_rearranged {n : ℕ} (e : Fin n → Fin n) (he : Function.Injective e) (f : Fin n → EReal) :
    (Finset.univ : Finset (Fin n)).val.map (fun k => f (e k)) = (Finset.univ : Finset (Fin n)).val.map f := by
  have moved : (Finset.univ : Finset (Fin n)).val.map e = Finset.univ.val :=
    Multiset.map_univ_val_equiv (Equiv.ofBijective e (Finite.injective_iff_bijective.mp he))
  conv_rhs => rw [← moved, Multiset.map_map]
  rfl

/-- A column of the reference's sort, as a sequence. -/
def sortedCol (j : Fin 64) (i : ℕ) : EReal := X (ix2 (pick X j ⟨i % 4096, Nat.mod_lt _ (by decide)⟩) j)

/-- It holds the values of its argument's column. -/
theorem sortedCol_values (j : Fin 64) : (Multiset.range 4096).map (sortedCol X j) = (Multiset.range 4096).map (argCol X j) := by
  rw [range_map_fin 4096 (sortedCol X j) (fun k => X (ix2 (pick X j k) j))
      (fun k => congrArg (fun k => X (ix2 (pick X j k) j)) (Fin.ext (Nat.mod_eq_of_lt k.isLt))),
    range_map_fin 4096 (argCol X j) (fun k => X (ix2 k j)) (fun k => congrArg (fun k : Fin 4096 => X (ix2 k j)) (Fin.ext (Nat.mod_eq_of_lt k.isLt)))]
  exact map_rearranged (pick X j) (sortedFrom_injective _) fun k => X (ix2 k j)

/-- Each column of the reference's sort is what the network of length 4096 makes of its argument's column. -/
theorem sort_eq_net (i : Fin 4096) (j : Fin 64) :
    Host.sort S4096x64 0 (comparator_f32_d0 (F := Ideal)) X (ix2 i j) = net 12 (argCol X j) i.val := by
  have size : 2 ^ 12 = 4096 := by norm_num
  rw [sort_apply, net_unique 12 (argCol X j) (sortedCol X j) (fun a b hab hb => pick_le X j _ _ (by
    rw [size] at hb
    show a % 4096 ≤ b % 4096
    omega)) (by rw [size]; exact sortedCol_values X j) i.val (by rw [size]; exact i.isLt)]
  exact congrArg (fun k => X (ix2 (pick X j k) j)) (Fin.ext (Nat.mod_eq_of_lt i.isLt).symm)

end Cert.DevSort
-- ==== Proof.Algebraic.lean ====
/-
# The kernel computes the reference

Over the extended reals, when every device's argument is its block of the reference's argument, every device's result is
its block of the reference's result: both are the network of length 4096 on each column.
-/
module

public import proofs.«01_k».proof.Defs
public import proofs.«01_k».proof.Proof.Frames
public import proofs.«01_k».proof.Proof.Value
public import proofs.«01_k».proof.Proof.Reference
public import Idealize.ShloMosaic.Lib.Layout
public import Idealize.ShloMosaic.Lib.Pipeline.ValueKit

@[expose] public section

noncomputable section

namespace Cert.DevSort

open Idealize.ShloMosaic hiding ix2
open Idealize.SL.Sem
open Idealize.ShloMosaic.TcCoe
open Idealize.ShloMosaic.ValueIdx (ix2)
open Cert.KernelIdeal Cert.KernelIdeal.Gen

section
variable {F : FTy → Type} [FloatOps F]
variable (m : (ℓ : Loc nD τ sig) → Buf (Elt F) ℓ) (ρ : Dev nD → PrngReg)

/-- A device's block is its argument array, whole. -/
theorem xin_eq (c : Dev nD) : xin m ρ c = m ((c : Thread nD τ).loc main_arg0) := by
  funext i
  have at_zero : (win0_0.blk (0 : Fin 1)).view.emb i = i := by
    funext a
    apply Fin.ext
    exact Pipeline.Window.rect_emb_val_of_index_zero win0_0 (0 : Fin 1) a (by fin_cases a <;> decide) i
  exact congrArg (m ((c : Thread nD τ).loc main_arg0)) at_zero

/-- The result array of a device ends with what the device computed, whole. -/
theorem final_result (c : Dev nD) : finalA m ρ c (1 : Fin 2) = result (xin m ρ) c := by
  unfold finalA
  refine (dats m ρ 0 c).arrAt_eq_of_after_last (1 : Fin 2) t₀ (by decide +kernel) _ fun j => ?_
  blk_simp
  rfl

end

/-- The whole sorted array: the reference's result of the argument `X`. -/
def sortedArray (X : FVec Ideal S4096x64 .bf16) : FVec Ideal S4096x64 .bf16 :=
  truncf .bf16 (Host.sort S4096x64 0 (Cert.ReferenceIdeal.comparator_f32_d0 (F := Ideal)) (extf .f32 X Cert.ReferenceIdeal.Facts₀.bitsLt_bf16_f32))
    Cert.ReferenceIdeal.Facts₀.bitsLt_bf16_f32

/-- If each device has its block of `X`, each device's result is its block of the sorted array. -/
theorem result_block (x : Dev nD → FVec Ideal S128x64 .bf16) (X : FVec Ideal S4096x64 .bf16)
    (hx : ∀ c, x c = Layout.block ⟨2, ![128, 64]⟩ ⟨2, ![4096, 64]⟩ 0 32 c X) (c : Dev nD) :
    result x c = Layout.block ⟨2, ![128, 64]⟩ ⟨2, ![4096, 64]⟩ 0 32 c (sortedArray X) := by
  have place : ∀ (t : Layout.Tiles ⟨2, ![128, 64]⟩ ⟨2, ![4096, 64]⟩ 0 32) (d : Fin 32) (r : Fin 128) (j : Fin 64) (n : Fin 4096),
      n.val = 128 * d.val + r.val → t.idx d (ix2 r j) = (ix2 n j : S4096x64.Idx) := by
    intro t d r j n hn
    funext a
    apply Fin.ext
    fin_cases a
    · show d.val * 128 + r.val = n.val
      omega
    · rfl
  funext i
  obtain ⟨r, j, rfl⟩ : ∃ (r : Fin 128) (j : Fin 64), i = ix2 r j := ⟨i 0, i 1, by funext a; fin_cases a <;> rfl⟩
  have hc : c.val < 32 := c.isLt
  have hr := r.isLt
  have column : wholeCol x j = argCol X j := by
    funext n
    unfold wholeCol
    rw [hx]
    exact congrArg X (place _ ⟨n / 128 % 32, by omega⟩ ⟨n % 128, by omega⟩ j ⟨n % 4096, by omega⟩ (by
      show n % 4096 = 128 * (n / 128 % 32) + n % 128
      omega))
  rw [result_apply, column]
  refine (sort_eq_net X ⟨128 * c.val + r.val, by omega⟩ j).symm.trans ?_
  exact congrArg (sortedArray X) (place _ c r j ⟨128 * c.val + r.val, by omega⟩ rfl).symm

/-- The kernel computes the reference over the extended reals. -/
theorem algebraic_kernelIdeal : Cert.algebraic_KernelIdeal_ReferenceIdeal := by
  intro m g m' g' _ hagree
  refine ⟨sortedArray (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun r h c =>
      ⟨((h.1 c (1 : Fin 2)).trans (final_result m g c)).trans (result_block (xin m g) _ (fun d => (xin_eq m g d).trans (hagree d)) c),
        (h.1 c (0 : Fin 2)).trans (final_arg m g c)⟩) (run_main m g)
  · exact (θ_run Cert.ReferenceIdeal.defs _ _).mono (fun _ h => h 0) (Cert.ReferenceIdeal.Value.run (F := Ideal) m' g')

end Cert.DevSort
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- The claims together: the three frames, that the reading over the extended reals is the kernel's own text, and that over
    the extended reals it computes the reference. -/
theorem claim : Cert.Claim := ⟨Cert.Kernel.Gen.facts, Cert.KernelIdeal.Gen.facts, Cert.ReferenceIdeal.Gen.facts,
  Cert.DevSort.frame_kernel, Cert.DevSort.frame_kernelIdeal, Cert.DevSort.frame_referenceIdeal, trivial,
  Cert.DevSort.algebraic_kernelIdeal⟩

end Cert.Proof

end
